-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_v98) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x16x4096x256 : Shape := ⟨4, ![4, 16, 4096, 256]⟩
abbrev S4x16x4096x128 : Shape := ⟨4, ![4, 16, 4096, 128]⟩
abbrev S_ : Shape := ⟨0, ![]⟩

class Facts : Prop where
  bitsLt_bf16_f32 : FTy.bits .bf16 < FTy.bits .f32
  bcast_S_S4x16x4096x256 : S_.BroadcastsInDim S4x16x4096x256 (![] : Fin 0 → Fin S4x16x4096x256.rank)

variable [Facts]

def fn {F : FTy → Type} [FloatOps F] (main_arg0 : FVec F S4x16x4096x256 .bf16) (main_arg1 : FVec F S4x16x4096x256 .bf16) (main_arg2 : FVec F S4x16x4096x128 .bf16) : IVec S4x16x4096x256 1 × IVec S4x16x4096x256 1 :=
  let main_v0 : FVec F S4x16x4096x256 .f32 := (extf .f32 · bitsLt_bf16_f32) main_arg0
  let main_v1 : FVec F S4x16x4096x256 .f32 := (extf .f32 · bitsLt_bf16_f32) main_arg1
  let main_v2 : FVec F S4x16x4096x256 .f32 := Host.absf main_v0
  let main_cst : FVec F S_ .f32 := constant S_ .f32 0x7F800000#32
  let main_v3 : FVec F S4x16x4096x256 .f32 := broadcastInDim S4x16x4096x256 ![] bcast_S_S4x16x4096x256 main_cst
  let main_v4 : IVec S4x16x4096x256 1 := cmpf .olt main_v2 main_v3
  let main_v5 : FVec F S4x16x4096x256 .f32 := Host.absf main_v1
  let main_cst_0 : FVec F S_ .f32 := constant S_ .f32 0x7F800000#32
  let main_v6 : FVec F S4x16x4096x256 .f32 := broadcastInDim S4x16x4096x256 ![] bcast_S_S4x16x4096x256 main_cst_0
  let main_v7 : IVec S4x16x4096x256 1 := cmpf .olt main_v5 main_v6
  (main_v4, main_v7)
-- ==== Kernel.lean ====
abbrev S4x16x4096x256 : Shape := ⟨4, ![4, 16, 4096, 256]⟩
abbrev S4x16x4096x128 : Shape := ⟨4, ![4, 16, 4096, 128]⟩
abbrev S4x4096x2048 : Shape := ⟨3, ![4, 4096, 2048]⟩
abbrev S1x1x4096x256 : Shape := ⟨4, ![1, 1, 4096, 256]⟩
abbrev S1x1x4096x128 : Shape := ⟨4, ![1, 1, 4096, 128]⟩
abbrev S1x4096x128 : Shape := ⟨3, ![1, 4096, 128]⟩
abbrev S1x1x512x256 : Shape := ⟨4, ![1, 1, 512, 256]⟩
abbrev S512x256 : Shape := ⟨2, ![512, 256]⟩
abbrev S512x512 : Shape := ⟨2, ![512, 512]⟩
abbrev S512x1 : Shape := ⟨2, ![512, 1]⟩
abbrev S1x1x512x128 : Shape := ⟨4, ![1, 1, 512, 128]⟩
abbrev S512x128 : Shape := ⟨2, ![512, 128]⟩
abbrev S512 : Shape := ⟨1, ![512]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x256, .bf16⟩
  | .hbm, ⟨1, _⟩ => ⟨S4x16x4096x256, .bf16⟩
  | .hbm, ⟨2, _⟩ => ⟨S4x16x4096x128, .bf16⟩
  | .hbm, ⟨3, _⟩ => ⟨S4x4096x2048, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x4096x128, .bf16⟩
  | .local _ .vmem, ⟨7, _⟩ => ⟨S1x4096x128, .bf16⟩
  | _, _ => ⟨S4x16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

@[reducible] def k0_t1_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_39 : BitVec 32 := 1#32
  ⟨c0_i32, v40, c1_i32_39⟩
def k0_mult1 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_254 : BitVec 32 := 8#32
  let v723 : BitVec 32 := Scalar.muli arg7 c8_i32_254
  let c0_i32_255 : BitVec 32 := 0#32
  let v724 : BitVec 32 := Scalar.addi v723 c0_i32_255
  let c512_i32_270 : BitVec 32 := 512#32
  let v739 : BitVec 32 := Scalar.muli v724 c512_i32_270
  v739
def k0_off1 (i : grid0.Coords) (k0_t1 : Fin (k0_t1_loop i).trips) (c0_i32_255 : BitVec 32) : Fin 4 → Nat :=
  let c0_271 : Index := 0#32
  let c0_272 : Index := 0#32
  let c0_i32 : BitVec 32 := 0#32
  let c1_i32_39 : BitVec 32 := 1#32
  let arg7 : BitVec 32 := Scf.iv c0_i32 c1_i32_39 k0_t1
  let c8_i32_254 : BitVec 32 := 8#32
  let v723 : BitVec 32 := Scalar.muli arg7 c8_i32_254
  let v724 : BitVec 32 := Scalar.addi v723 c0_i32_255
  let c512_i32_270 : BitVec 32 := 512#32
  let v739 : BitVec 32 := Scalar.muli v724 c512_i32_270
  let v740 : BitVec 32 := v739
  let v741 : Index := Scalar.indexCast v740
  let c0_273 : Index := 0#32
  ![0, 0, v741.toNat, 0]
def k0_mult2 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_256 : BitVec 32 := 8#32
  let v725 : BitVec 32 := Scalar.muli arg7 c8_i32_256
  let c1_i32_257 : BitVec 32 := 1#32
  let v726 : BitVec 32 := Scalar.addi v725 c1_i32_257
  let c512_i32_282 : BitVec 32 := 512#32
  let v752 : BitVec 32 := Scalar.muli v726 c512_i32_282
  v752
def k0_mult3 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_258 : BitVec 32 := 8#32
  let v727 : BitVec 32 := Scalar.muli arg7 c8_i32_258
  let c2_i32_259 : BitVec 32 := 2#32
  let v728 : BitVec 32 := Scalar.addi v727 c2_i32_259
  let c512_i32_294 : BitVec 32 := 512#32
  let v765 : BitVec 32 := Scalar.muli v728 c512_i32_294
  v765
def k0_mult4 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_260 : BitVec 32 := 8#32
  let v729 : BitVec 32 := Scalar.muli arg7 c8_i32_260
  let c3_i32_261 : BitVec 32 := 3#32
  let v730 : BitVec 32 := Scalar.addi v729 c3_i32_261
  let c512_i32_306 : BitVec 32 := 512#32
  let v778 : BitVec 32 := Scalar.muli v730 c512_i32_306
  v778
def k0_mult5 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_262 : BitVec 32 := 8#32
  let v731 : BitVec 32 := Scalar.muli arg7 c8_i32_262
  let c4_i32_263 : BitVec 32 := 4#32
  let v732 : BitVec 32 := Scalar.addi v731 c4_i32_263
  let c512_i32_318 : BitVec 32 := 512#32
  let v791 : BitVec 32 := Scalar.muli v732 c512_i32_318
  v791
def k0_mult6 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_264 : BitVec 32 := 8#32
  let v733 : BitVec 32 := Scalar.muli arg7 c8_i32_264
  let c5_i32_265 : BitVec 32 := 5#32
  let v734 : BitVec 32 := Scalar.addi v733 c5_i32_265
  let c512_i32_330 : BitVec 32 := 512#32
  let v804 : BitVec 32 := Scalar.muli v734 c512_i32_330
  v804
def k0_mult7 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_266 : BitVec 32 := 8#32
  let v735 : BitVec 32 := Scalar.muli arg7 c8_i32_266
  let c6_i32_267 : BitVec 32 := 6#32
  let v736 : BitVec 32 := Scalar.addi v735 c6_i32_267
  let c512_i32_342 : BitVec 32 := 512#32
  let v817 : BitVec 32 := Scalar.muli v736 c512_i32_342
  v817
def k0_mult8 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_268 : BitVec 32 := 8#32
  let v737 : BitVec 32 := Scalar.muli arg7 c8_i32_268
  let c7_i32_269 : BitVec 32 := 7#32
  let v738 : BitVec 32 := Scalar.addi v737 c7_i32_269
  let c512_i32_354 : BitVec 32 := 512#32
  let v830 : BitVec 32 := Scalar.muli v738 c512_i32_354
  v830
def k0_mult9 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_254 : BitVec 32 := 8#32
  let v723 : BitVec 32 := Scalar.muli arg7 c8_i32_254
  let c0_i32_255 : BitVec 32 := 0#32
  let v724 : BitVec 32 := Scalar.addi v723 c0_i32_255
  let c512_i32_366 : BitVec 32 := 512#32
  let v843 : BitVec 32 := Scalar.muli v724 c512_i32_366
  v843
def k0_off2 (i : grid0.Coords) (k0_t1 : Fin (k0_t1_loop i).trips) (c0_i32_255 : BitVec 32) : Fin 4 → Nat :=
  let c0_367 : Index := 0#32
  let c0_368 : Index := 0#32
  let c0_i32 : BitVec 32 := 0#32
  let c1_i32_39 : BitVec 32 := 1#32
  let arg7 : BitVec 32 := Scf.iv c0_i32 c1_i32_39 k0_t1
  let c8_i32_254 : BitVec 32 := 8#32
  let v723 : BitVec 32 := Scalar.muli arg7 c8_i32_254
  let v724 : BitVec 32 := Scalar.addi v723 c0_i32_255
  let c512_i32_366 : BitVec 32 := 512#32
  let v843 : BitVec 32 := Scalar.muli v724 c512_i32_366
  let v844 : BitVec 32 := v843
  let v845 : Index := Scalar.indexCast v844
  let c0_369 : Index := 0#32
  ![0, 0, v845.toNat, 0]
def k0_mult10 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_256 : BitVec 32 := 8#32
  let v725 : BitVec 32 := Scalar.muli arg7 c8_i32_256
  let c1_i32_257 : BitVec 32 := 1#32
  let v726 : BitVec 32 := Scalar.addi v725 c1_i32_257
  let c512_i32_387 : BitVec 32 := 512#32
  let v954 : BitVec 32 := Scalar.muli v726 c512_i32_387
  v954
def k0_mult11 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_258 : BitVec 32 := 8#32
  let v727 : BitVec 32 := Scalar.muli arg7 c8_i32_258
  let c2_i32_259 : BitVec 32 := 2#32
  let v728 : BitVec 32 := Scalar.addi v727 c2_i32_259
  let c512_i32_408 : BitVec 32 := 512#32
  let v1065 : BitVec 32 := Scalar.muli v728 c512_i32_408
  v1065
def k0_mult12 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_260 : BitVec 32 := 8#32
  let v729 : BitVec 32 := Scalar.muli arg7 c8_i32_260
  let c3_i32_261 : BitVec 32 := 3#32
  let v730 : BitVec 32 := Scalar.addi v729 c3_i32_261
  let c512_i32_429 : BitVec 32 := 512#32
  let v1176 : BitVec 32 := Scalar.muli v730 c512_i32_429
  v1176
def k0_mult13 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_262 : BitVec 32 := 8#32
  let v731 : BitVec 32 := Scalar.muli arg7 c8_i32_262
  let c4_i32_263 : BitVec 32 := 4#32
  let v732 : BitVec 32 := Scalar.addi v731 c4_i32_263
  let c512_i32_450 : BitVec 32 := 512#32
  let v1287 : BitVec 32 := Scalar.muli v732 c512_i32_450
  v1287
def k0_mult14 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_264 : BitVec 32 := 8#32
  let v733 : BitVec 32 := Scalar.muli arg7 c8_i32_264
  let c5_i32_265 : BitVec 32 := 5#32
  let v734 : BitVec 32 := Scalar.addi v733 c5_i32_265
  let c512_i32_471 : BitVec 32 := 512#32
  let v1398 : BitVec 32 := Scalar.muli v734 c512_i32_471
  v1398
def k0_mult15 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_266 : BitVec 32 := 8#32
  let v735 : BitVec 32 := Scalar.muli arg7 c8_i32_266
  let c6_i32_267 : BitVec 32 := 6#32
  let v736 : BitVec 32 := Scalar.addi v735 c6_i32_267
  let c512_i32_492 : BitVec 32 := 512#32
  let v1509 : BitVec 32 := Scalar.muli v736 c512_i32_492
  v1509
def k0_mult16 (i : grid0.Coords) (k0_t1 : Fin (k0_t1_loop i).trips) : BitVec 32 :=
  let c0_i32 : BitVec 32 := 0#32
  let c1_i32_39 : BitVec 32 := 1#32
  let arg7 : BitVec 32 := Scf.iv c0_i32 c1_i32_39 k0_t1
  let c8_i32_268 : BitVec 32 := 8#32
  let v737 : BitVec 32 := Scalar.muli arg7 c8_i32_268
  let c7_i32_269 : BitVec 32 := 7#32
  let v738 : BitVec 32 := Scalar.addi v737 c7_i32_269
  let c512_i32_513 : BitVec 32 := 512#32
  let v1620 : BitVec 32 := Scalar.muli v738 c512_i32_513
  v1620
@[reducible] def k0_t2_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let v37 : BitVec 32 := Scalar.addi c0_i32 v36
  let c1_i32_40 : BitVec 32 := 1#32
  ⟨v40, v37, c1_i32_40⟩
def k0_mult17 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_254 : BitVec 32 := 8#32
  let v723 : BitVec 32 := Scalar.muli arg7 c8_i32_254
  let c0_i32_255 : BitVec 32 := 0#32
  let v724 : BitVec 32 := Scalar.addi v723 c0_i32_255
  let c512_i32_270 : BitVec 32 := 512#32
  let v739 : BitVec 32 := Scalar.muli v724 c512_i32_270
  v739
def k0_off3 (i : grid0.Coords) (k0_t2 : Fin (k0_t2_loop i).trips) (c0_i32_255 : BitVec 32) : Fin 4 → Nat :=
  let c0_271 : Index := 0#32
  let c0_272 : Index := 0#32
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_254 : BitVec 32 := 8#32
  let v723 : BitVec 32 := Scalar.muli arg7 c8_i32_254
  let v724 : BitVec 32 := Scalar.addi v723 c0_i32_255
  let c512_i32_270 : BitVec 32 := 512#32
  let v739 : BitVec 32 := Scalar.muli v724 c512_i32_270
  let v740 : BitVec 32 := v739
  let v741 : Index := Scalar.indexCast v740
  let c0_273 : Index := 0#32
  ![0, 0, v741.toNat, 0]
def k0_mult18 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_256 : BitVec 32 := 8#32
  let v725 : BitVec 32 := Scalar.muli arg7 c8_i32_256
  let c1_i32_257 : BitVec 32 := 1#32
  let v726 : BitVec 32 := Scalar.addi v725 c1_i32_257
  let c512_i32_282 : BitVec 32 := 512#32
  let v752 : BitVec 32 := Scalar.muli v726 c512_i32_282
  v752
def k0_mult19 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_258 : BitVec 32 := 8#32
  let v727 : BitVec 32 := Scalar.muli arg7 c8_i32_258
  let c2_i32_259 : BitVec 32 := 2#32
  let v728 : BitVec 32 := Scalar.addi v727 c2_i32_259
  let c512_i32_294 : BitVec 32 := 512#32
  let v765 : BitVec 32 := Scalar.muli v728 c512_i32_294
  v765
def k0_mult20 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_260 : BitVec 32 := 8#32
  let v729 : BitVec 32 := Scalar.muli arg7 c8_i32_260
  let c3_i32_261 : BitVec 32 := 3#32
  let v730 : BitVec 32 := Scalar.addi v729 c3_i32_261
  let c512_i32_306 : BitVec 32 := 512#32
  let v778 : BitVec 32 := Scalar.muli v730 c512_i32_306
  v778
def k0_mult21 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_262 : BitVec 32 := 8#32
  let v731 : BitVec 32 := Scalar.muli arg7 c8_i32_262
  let c4_i32_263 : BitVec 32 := 4#32
  let v732 : BitVec 32 := Scalar.addi v731 c4_i32_263
  let c512_i32_318 : BitVec 32 := 512#32
  let v791 : BitVec 32 := Scalar.muli v732 c512_i32_318
  v791
def k0_mult22 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_264 : BitVec 32 := 8#32
  let v733 : BitVec 32 := Scalar.muli arg7 c8_i32_264
  let c5_i32_265 : BitVec 32 := 5#32
  let v734 : BitVec 32 := Scalar.addi v733 c5_i32_265
  let c512_i32_330 : BitVec 32 := 512#32
  let v804 : BitVec 32 := Scalar.muli v734 c512_i32_330
  v804
def k0_mult23 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_266 : BitVec 32 := 8#32
  let v735 : BitVec 32 := Scalar.muli arg7 c8_i32_266
  let c6_i32_267 : BitVec 32 := 6#32
  let v736 : BitVec 32 := Scalar.addi v735 c6_i32_267
  let c512_i32_342 : BitVec 32 := 512#32
  let v817 : BitVec 32 := Scalar.muli v736 c512_i32_342
  v817
def k0_mult24 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_268 : BitVec 32 := 8#32
  let v737 : BitVec 32 := Scalar.muli arg7 c8_i32_268
  let c7_i32_269 : BitVec 32 := 7#32
  let v738 : BitVec 32 := Scalar.addi v737 c7_i32_269
  let c512_i32_354 : BitVec 32 := 512#32
  let v830 : BitVec 32 := Scalar.muli v738 c512_i32_354
  v830
def k0_mult25 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_254 : BitVec 32 := 8#32
  let v723 : BitVec 32 := Scalar.muli arg7 c8_i32_254
  let c0_i32_255 : BitVec 32 := 0#32
  let v724 : BitVec 32 := Scalar.addi v723 c0_i32_255
  let c512_i32_366 : BitVec 32 := 512#32
  let v843 : BitVec 32 := Scalar.muli v724 c512_i32_366
  v843
def k0_off4 (i : grid0.Coords) (k0_t2 : Fin (k0_t2_loop i).trips) (c0_i32_255 : BitVec 32) : Fin 4 → Nat :=
  let c0_367 : Index := 0#32
  let c0_368 : Index := 0#32
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_254 : BitVec 32 := 8#32
  let v723 : BitVec 32 := Scalar.muli arg7 c8_i32_254
  let v724 : BitVec 32 := Scalar.addi v723 c0_i32_255
  let c512_i32_366 : BitVec 32 := 512#32
  let v843 : BitVec 32 := Scalar.muli v724 c512_i32_366
  let v844 : BitVec 32 := v843
  let v845 : Index := Scalar.indexCast v844
  let c0_369 : Index := 0#32
  ![0, 0, v845.toNat, 0]
def k0_mult26 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_256 : BitVec 32 := 8#32
  let v725 : BitVec 32 := Scalar.muli arg7 c8_i32_256
  let c1_i32_257 : BitVec 32 := 1#32
  let v726 : BitVec 32 := Scalar.addi v725 c1_i32_257
  let c512_i32_387 : BitVec 32 := 512#32
  let v954 : BitVec 32 := Scalar.muli v726 c512_i32_387
  v954
def k0_mult27 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_258 : BitVec 32 := 8#32
  let v727 : BitVec 32 := Scalar.muli arg7 c8_i32_258
  let c2_i32_259 : BitVec 32 := 2#32
  let v728 : BitVec 32 := Scalar.addi v727 c2_i32_259
  let c512_i32_408 : BitVec 32 := 512#32
  let v1065 : BitVec 32 := Scalar.muli v728 c512_i32_408
  v1065
def k0_mult28 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_260 : BitVec 32 := 8#32
  let v729 : BitVec 32 := Scalar.muli arg7 c8_i32_260
  let c3_i32_261 : BitVec 32 := 3#32
  let v730 : BitVec 32 := Scalar.addi v729 c3_i32_261
  let c512_i32_429 : BitVec 32 := 512#32
  let v1176 : BitVec 32 := Scalar.muli v730 c512_i32_429
  v1176
def k0_mult29 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_262 : BitVec 32 := 8#32
  let v731 : BitVec 32 := Scalar.muli arg7 c8_i32_262
  let c4_i32_263 : BitVec 32 := 4#32
  let v732 : BitVec 32 := Scalar.addi v731 c4_i32_263
  let c512_i32_450 : BitVec 32 := 512#32
  let v1287 : BitVec 32 := Scalar.muli v732 c512_i32_450
  v1287
def k0_mult30 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_264 : BitVec 32 := 8#32
  let v733 : BitVec 32 := Scalar.muli arg7 c8_i32_264
  let c5_i32_265 : BitVec 32 := 5#32
  let v734 : BitVec 32 := Scalar.addi v733 c5_i32_265
  let c512_i32_471 : BitVec 32 := 512#32
  let v1398 : BitVec 32 := Scalar.muli v734 c512_i32_471
  v1398
def k0_mult31 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_266 : BitVec 32 := 8#32
  let v735 : BitVec 32 := Scalar.muli arg7 c8_i32_266
  let c6_i32_267 : BitVec 32 := 6#32
  let v736 : BitVec 32 := Scalar.addi v735 c6_i32_267
  let c512_i32_492 : BitVec 32 := 512#32
  let v1509 : BitVec 32 := Scalar.muli v736 c512_i32_492
  v1509
def k0_mult32 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_40 : BitVec 32 := 1#32
  let arg7 : BitVec 32 := Scf.iv v40 c1_i32_40 k0_t2
  let c8_i32_268 : BitVec 32 := 8#32
  let v737 : BitVec 32 := Scalar.muli arg7 c8_i32_268
  let c7_i32_269 : BitVec 32 := 7#32
  let v738 : BitVec 32 := Scalar.addi v737 c7_i32_269
  let c512_i32_513 : BitVec 32 := 512#32
  let v1620 : BitVec 32 := Scalar.muli v738 c512_i32_513
  v1620
def k0_mult33 (i : grid0.Coords) : BitVec 32 :=
  let arg2 : BitVec 32 := BitVec.ofNat 32 (i 2).val
  let c8_i32 : BitVec 32 := 8#32
  let v35 : BitVec 32 := Scalar.muli arg2 c8_i32
  let c0_i32_41 : BitVec 32 := 0#32
  let v43 : BitVec 32 := Scalar.addi v35 c0_i32_41
  let c512_i32 : BitVec 32 := 512#32
  let v51 : BitVec 32 := Scalar.muli v43 c512_i32
  v51
def k0_off5 (i : grid0.Coords) (c0_i32_41 : BitVec 32) : Fin 4 → Nat :=
  let c0_43 : Index := 0#32
  let c0_44 : Index := 0#32
  let arg2 : BitVec 32 := BitVec.ofNat 32 (i 2).val
  let c8_i32 : BitVec 32 := 8#32
  let v35 : BitVec 32 := Scalar.muli arg2 c8_i32
  let v43 : BitVec 32 := Scalar.addi v35 c0_i32_41
  let c512_i32 : BitVec 32 := 512#32
  let v51 : BitVec 32 := Scalar.muli v43 c512_i32
  let v52 : BitVec 32 := v51
  let v53 : Index := Scalar.indexCast v52
  let c0_45 : Index := 0#32
  ![0, 0, v53.toNat, 0]
def k0_mult34 (i : grid0.Coords) : BitVec 32 :=
  let arg2 : BitVec 32 := BitVec.ofNat 32 (i 2).val
  let c8_i32 : BitVec 32 := 8#32
  let v35 : BitVec 32 := Scalar.muli arg2 c8_i32
  let c1_i32_42 : BitVec 32 := 1#32
  let v44 : BitVec 32 := Scalar.addi v35 c1_i32_42
  let c512_i32_54 : BitVec 32 := 512#32
  let v64 : BitVec 32 := Scalar.muli v44 c512_i32_54
  v64
def k0_mult35 (i : grid0.Coords) : BitVec 32 :=
  let arg2 : BitVec 32 := BitVec.ofNat 32 (i 2).val
  let c8_i32 : BitVec 32 := 8#32
  let v35 : BitVec 32 := Scalar.muli arg2 c8_i32
  let c2_i32 : BitVec 32 := 2#32
  let v45 : BitVec 32 := Scalar.addi v35 c2_i32
  let c512_i32_65 : BitVec 32 := 512#32
  let v76 : BitVec 32 := Scalar.muli v45 c512_i32_65
  v76
def k0_mult36 (i : grid0.Coords) : BitVec 32 :=
  let arg2 : BitVec 32 := BitVec.ofNat 32 (i 2).val
  let c8_i32 : BitVec 32 := 8#32
  let v35 : BitVec 32 := Scalar.muli arg2 c8_i32
  let c3_i32 : BitVec 32 := 3#32
  let v46 : BitVec 32 := Scalar.addi v35 c3_i32
  let c512_i32_75 : BitVec 32 := 512#32
  let v87 : BitVec 32 := Scalar.muli v46 c512_i32_75
  v87
def k0_mult37 (i : grid0.Coords) : BitVec 32 :=
  let arg2 : BitVec 32 := BitVec.ofNat 32 (i 2).val
  let c8_i32 : BitVec 32 := 8#32
  let v35 : BitVec 32 := Scalar.muli arg2 c8_i32
  let c4_i32 : BitVec 32 := 4#32
  let v47 : BitVec 32 := Scalar.addi v35 c4_i32
  let c512_i32_84 : BitVec 32 := 512#32
  let v97 : BitVec 32 := Scalar.muli v47 c512_i32_84
  v97
def k0_mult38 (i : grid0.Coords) : BitVec 32 :=
  let arg2 : BitVec 32 := BitVec.ofNat 32 (i 2).val
  let c8_i32 : BitVec 32 := 8#32
  let v35 : BitVec 32 := Scalar.muli arg2 c8_i32
  let c5_i32 : BitVec 32 := 5#32
  let v48 : BitVec 32 := Scalar.addi v35 c5_i32
  let c512_i32_92 : BitVec 32 := 512#32
  let v106 : BitVec 32 := Scalar.muli v48 c512_i32_92
  v106
def k0_mult39 (i : grid0.Coords) : BitVec 32 :=
  let arg2 : BitVec 32 := BitVec.ofNat 32 (i 2).val
  let c8_i32 : BitVec 32 := 8#32
  let v35 : BitVec 32 := Scalar.muli arg2 c8_i32
  let c6_i32 : BitVec 32 := 6#32
  let v49 : BitVec 32 := Scalar.addi v35 c6_i32
  let c512_i32_99 : BitVec 32 := 512#32
  let v114 : BitVec 32 := Scalar.muli v49 c512_i32_99
  v114
def k0_mult40 (i : grid0.Coords) : BitVec 32 :=
  let arg2 : BitVec 32 := BitVec.ofNat 32 (i 2).val
  let c8_i32 : BitVec 32 := 8#32
  let v35 : BitVec 32 := Scalar.muli arg2 c8_i32
  let c7_i32 : BitVec 32 := 7#32
  let v50 : BitVec 32 := Scalar.addi v35 c7_i32
  let c512_i32_105 : BitVec 32 := 512#32
  let v121 : BitVec 32 := Scalar.muli v50 c512_i32_105
  v121
def k0_mult41 (i : grid0.Coords) : BitVec 32 :=
  let arg2 : BitVec 32 := BitVec.ofNat 32 (i 2).val
  let c8_i32 : BitVec 32 := 8#32
  let v35 : BitVec 32 := Scalar.muli arg2 c8_i32
  let c0_i32_41 : BitVec 32 := 0#32
  let v43 : BitVec 32 := Scalar.addi v35 c0_i32_41
  let c512_i32_110 : BitVec 32 := 512#32
  let v127 : BitVec 32 := Scalar.muli v43 c512_i32_110
  v127
def k0_off6 (i : grid0.Coords) (c0_i32_41 : BitVec 32) : Fin 4 → Nat :=
  let c0_111 : Index := 0#32
  let c0_112 : Index := 0#32
  let arg2 : BitVec 32 := BitVec.ofNat 32 (i 2).val
  let c8_i32 : BitVec 32 := 8#32
  let v35 : BitVec 32 := Scalar.muli arg2 c8_i32
  let v43 : BitVec 32 := Scalar.addi v35 c0_i32_41
  let c512_i32_110 : BitVec 32 := 512#32
  let v127 : BitVec 32 := Scalar.muli v43 c512_i32_110
  let v128 : BitVec 32 := v127
  let v129 : Index := Scalar.indexCast v128
  let c0_113 : Index := 0#32
  ![0, 0, v129.toNat, 0]
def k0_mult42 (i : grid0.Coords) : BitVec 32 :=
  let arg2 : BitVec 32 := BitVec.ofNat 32 (i 2).val
  let c8_i32 : BitVec 32 := 8#32
  let v35 : BitVec 32 := Scalar.muli arg2 c8_i32
  let c1_i32_42 : BitVec 32 := 1#32
  let v44 : BitVec 32 := Scalar.addi v35 c1_i32_42
  let c512_i32_132 : BitVec 32 := 512#32
  let v240 : BitVec 32 := Scalar.muli v44 c512_i32_132
  v240
def k0_mult43 (i : grid0.Coords) : BitVec 32 :=
  let arg2 : BitVec 32 := BitVec.ofNat 32 (i 2).val
  let c8_i32 : BitVec 32 := 8#32
  let v35 : BitVec 32 := Scalar.muli arg2 c8_i32
  let c2_i32 : BitVec 32 := 2#32
  let v45 : BitVec 32 := Scalar.addi v35 c2_i32
  let c512_i32_152 : BitVec 32 := 512#32
  let v340 : BitVec 32 := Scalar.muli v45 c512_i32_152
  v340
def k0_mult44 (i : grid0.Coords) : BitVec 32 :=
  let arg2 : BitVec 32 := BitVec.ofNat 32 (i 2).val
  let c8_i32 : BitVec 32 := 8#32
  let v35 : BitVec 32 := Scalar.muli arg2 c8_i32
  let c3_i32 : BitVec 32 := 3#32
  let v46 : BitVec 32 := Scalar.addi v35 c3_i32
  let c512_i32_170 : BitVec 32 := 512#32
  let v427 : BitVec 32 := Scalar.muli v46 c512_i32_170
  v427
def k0_mult45 (i : grid0.Coords) : BitVec 32 :=
  let arg2 : BitVec 32 := BitVec.ofNat 32 (i 2).val
  let c8_i32 : BitVec 32 := 8#32
  let v35 : BitVec 32 := Scalar.muli arg2 c8_i32
  let c4_i32 : BitVec 32 := 4#32
  let v47 : BitVec 32 := Scalar.addi v35 c4_i32
  let c512_i32_186 : BitVec 32 := 512#32
  let v501 : BitVec 32 := Scalar.muli v47 c512_i32_186
  v501
def k0_mult46 (i : grid0.Coords) : BitVec 32 :=
  let arg2 : BitVec 32 := BitVec.ofNat 32 (i 2).val
  let c8_i32 : BitVec 32 := 8#32
  let v35 : BitVec 32 := Scalar.muli arg2 c8_i32
  let c5_i32 : BitVec 32 := 5#32
  let v48 : BitVec 32 := Scalar.addi v35 c5_i32
  let c512_i32_200 : BitVec 32 := 512#32
  let v562 : BitVec 32 := Scalar.muli v48 c512_i32_200
  v562
def k0_mult47 (i : grid0.Coords) : BitVec 32 :=
  let arg2 : BitVec 32 := BitVec.ofNat 32 (i 2).val
  let c8_i32 : BitVec 32 := 8#32
  let v35 : BitVec 32 := Scalar.muli arg2 c8_i32
  let c6_i32 : BitVec 32 := 6#32
  let v49 : BitVec 32 := Scalar.addi v35 c6_i32
  let c512_i32_212 : BitVec 32 := 512#32
  let v610 : BitVec 32 := Scalar.muli v49 c512_i32_212
  v610
def k0_mult48 (i : grid0.Coords) : BitVec 32 :=
  let arg2 : BitVec 32 := BitVec.ofNat 32 (i 2).val
  let c8_i32 : BitVec 32 := 8#32
  let v35 : BitVec 32 := Scalar.muli arg2 c8_i32
  let c7_i32 : BitVec 32 := 7#32
  let v50 : BitVec 32 := Scalar.addi v35 c7_i32
  let c512_i32_222 : BitVec 32 := 512#32
  let v645 : BitVec 32 := Scalar.muli v50 c512_i32_222
  v645
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x16x4096x256 : Shape := ⟨4, ![4, 16, 4096, 256]⟩
abbrev S4x16x4096x128 : Shape := ⟨4, ![4, 16, 4096, 128]⟩
abbrev S4x16x4096x4096 : Shape := ⟨4, ![4, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4x4096x16x128 : Shape := ⟨4, ![4, 4096, 16, 128]⟩
abbrev S4x4096x2048 : Shape := ⟨3, ![4, 4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x16x4096x256, .bf16⟩
  | .hbm, ⟨1, _⟩ => ⟨S4x16x4096x256, .bf16⟩
  | .hbm, ⟨2, _⟩ => ⟨S4x16x4096x128, .bf16⟩
  | .hbm, ⟨3, _⟩ => ⟨S4x16x4096x256, .f32⟩
  | .hbm, ⟨4, _⟩ => ⟨S4x16x4096x256, .f32⟩
  | .hbm, ⟨5, _⟩ => ⟨S4x16x4096x4096, .f32⟩
  | .hbm, ⟨6, _⟩ => ⟨S4096, .i32⟩
  | .hbm, ⟨7, _⟩ => ⟨S4096x1, .i32⟩
  | .hbm, ⟨8, _⟩ => ⟨S4096, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4x16x4096x4096, .i1⟩
  | .hbm, ⟨16, _⟩ => ⟨S4x16x4096x4096, .f32⟩
  | .hbm, ⟨17, _⟩ => ⟨S4x16x4096x4096, .f32⟩
  | .hbm, ⟨18, _⟩ => ⟨S_, .f32⟩
  | .hbm, ⟨19, _⟩ => ⟨S4x16x4096x4096, .f32⟩
  | .hbm, ⟨20, _⟩ => ⟨S_, .f32⟩
  | .hbm, ⟨21, _⟩ => ⟨S4x16x4096, .f32⟩
  | .hbm, ⟨22, _⟩ => ⟨S4x16x4096x1, .f32⟩
  | .hbm, ⟨23, _⟩ => ⟨S4x16x4096x4096, .f32⟩
  | .hbm, ⟨24, _⟩ => ⟨S4x16x4096x4096, .f32⟩
  | .hbm, ⟨25, _⟩ => ⟨S4x16x4096x4096, .f32⟩
  | .hbm, ⟨26, _⟩ => ⟨S_, .f32⟩
  | .hbm, ⟨27, _⟩ => ⟨S4x16x4096, .f32⟩
  | .hbm, ⟨28, _⟩ => ⟨S4x16x4096x1, .f32⟩
  | .hbm, ⟨29, _⟩ => ⟨S4x16x4096x4096, .f32⟩
  | .hbm, ⟨30, _⟩ => ⟨S4x16x4096x4096, .f32⟩
  | .hbm, ⟨31, _⟩ => ⟨S4x16x4096x128, .f32⟩
  | .hbm, ⟨32, _⟩ => ⟨S4x16x128x4096, .f32⟩
  | .hbm, ⟨33, _⟩ => ⟨S4x4096x16x128, .f32⟩
  | .hbm, ⟨34, _⟩ => ⟨S4x4096x2048, .f32⟩
  | .hbm, ⟨35, _⟩ => ⟨S4x4096x2048, .bf16⟩
  | _, _ => ⟨S4x16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x4096x3200 : Shape := ⟨3, ![4, 4096, 3200]⟩
abbrev S2x3x8x1x2048 : Shape := ⟨5, ![2, 3, 8, 1, 2048]⟩
abbrev S2x2048 : Shape := ⟨2, ![2, 2048]⟩
abbrev S2x2048x2048 : Shape := ⟨3, ![2, 2048, 2048]⟩
abbrev S2x1x2048 : Shape := ⟨3, ![2, 1, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1x1x1x1x2048 : Shape := ⟨5, ![1, 1, 1, 1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x3200, .bf16⟩
  | .hbm, ⟨2, _⟩ => ⟨S2x3x8x1x2048, .f32⟩
  | .hbm, ⟨3, _⟩ => ⟨S2x2048, .f32⟩
  | .hbm, ⟨4, _⟩ => ⟨S2x2048x2048, .f32⟩
  | .hbm, ⟨5, _⟩ => ⟨S4x4096x2048, .f32⟩
  | .hbm, ⟨6, _⟩ => ⟨S2x2048x2048, .bf16⟩
  | .hbm, ⟨7, _⟩ => ⟨S2x1x2048, .f32⟩
  | .hbm, ⟨8, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x2048, .bf16⟩
  | .local _ .vmem, ⟨5, _⟩ => ⟨S1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x4096x2048 : Shape := ⟨3, ![4, 4096, 2048]⟩
abbrev S4x4096x3200 : Shape := ⟨3, ![4, 4096, 3200]⟩
abbrev S2x3x8x1x2048 : Shape := ⟨5, ![2, 3, 8, 1, 2048]⟩
abbrev S2x2048 : Shape := ⟨2, ![2, 2048]⟩
abbrev S2x2048x2048 : Shape := ⟨3, ![2, 2048, 2048]⟩
abbrev S1x1x4x1x2048 : Shape := ⟨5, ![1, 1, 4, 1, 2048]⟩
abbrev S4x1x2048 : Shape := ⟨3, ![4, 1, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x3200, .bf16⟩
  | .hbm, ⟨2, _⟩ => ⟨S2x3x8x1x2048, .f32⟩
  | .hbm, ⟨3, _⟩ => ⟨S2x2048, .f32⟩
  | .hbm, ⟨4, _⟩ => ⟨S2x2048x2048, .f32⟩
  | .hbm, ⟨5, _⟩ => ⟨S4x4096x2048, .f32⟩
  | .hbm, ⟨6, _⟩ => ⟨S4x4096x2048, .bf16⟩
  | .hbm, ⟨7, _⟩ => ⟨S4x4096x2048, .f32⟩
  | .hbm, ⟨8, _⟩ => ⟨S1x1x4x1x2048, .f32⟩
  | .hbm, ⟨9, _⟩ => ⟨S4x1x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S1x2048x2048, .f32⟩
  | .hbm, ⟨22, _⟩ => ⟨S2048x2048, .f32⟩
  | .hbm, ⟨23, _⟩ => ⟨S4x4096x2048, .f32⟩
  | .hbm, ⟨24, _⟩ => ⟨S1x2048, .f32⟩
  | .hbm, ⟨25, _⟩ => ⟨S2048, .f32⟩
  | .hbm, ⟨26, _⟩ => ⟨S4x4096x2048, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x2048, .f32⟩
  | .hbm, ⟨38, _⟩ => ⟨S4x4096x2048, .f32⟩
  | .hbm, ⟨39, _⟩ => ⟨S1x1x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x6272 : Shape := ⟨3, ![2, 2048, 6272]⟩
abbrev S_ : Shape := ⟨0, ![]⟩
abbrev S8x2048 : Shape := ⟨2, ![8, 2048]⟩
abbrev S1 : Shape := ⟨1, ![1]⟩
abbrev S2x1x6144 : Shape := ⟨3, ![2, 1, 6144]⟩
abbrev S2x3x8x1x2048 : Shape := ⟨5, ![2, 3, 8, 1, 2048]⟩
abbrev S1x2048x1024 : Shape := ⟨3, ![1, 2048, 1024]⟩
abbrev S1x1x1024 : Shape := ⟨3, ![1, 1, 1024]⟩
abbrev S1x1x8x1x1024 : Shape := ⟨5, ![1, 1, 8, 1, 1024]⟩
abbrev S2048x1024 : Shape := ⟨2, ![2048, 1024]⟩
abbrev S8x1024 : Shape := ⟨2, ![8, 1024]⟩
abbrev S1x1024 : Shape := ⟨2, ![1, 1024]⟩
abbrev S2x1x2048 : Shape := ⟨3, ![2, 1, 2048]⟩
abbrev S4x4096x6272 : Shape := ⟨3, ![4, 4096, 6272]⟩
abbrev S1x256x2048 : Shape := ⟨3, ![1, 256, 2048]⟩
abbrev S1x1x2048 : Shape := ⟨3, ![1, 1, 2048]⟩
abbrev S1x1x1x1x2048 : Shape := ⟨5, ![1, 1, 1, 1, 2048]⟩
abbrev S1x2048x6272 : Shape := ⟨3, ![1, 2048, 6272]⟩
abbrev S1x256x6272 : Shape := ⟨3, ![1, 256, 6272]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x1024 : Shape := ⟨2, ![256, 1024]⟩
abbrev S1x256x1024 : Shape := ⟨3, ![1, 256, 1024]⟩
abbrev S1x2048x128 : Shape := ⟨3, ![1, 2048, 128]⟩
abbrev S2048x128 : Shape := ⟨2, ![2048, 128]⟩
abbrev S256x128 : Shape := ⟨2, ![256, 128]⟩
abbrev S1x256x128 : Shape := ⟨3, ![1, 256, 128]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2x2048x6144, .f32⟩
  | .hbm, ⟨3, _⟩ => ⟨S2x6144, .f32⟩
  | .hbm, ⟨4, _⟩ => ⟨S2x2048, .f32⟩
  | .hbm, ⟨5, _⟩ => ⟨S2x2048x6272, .f32⟩
  | .hbm, ⟨6, _⟩ => ⟨S_, .f32⟩
  | .hbm, ⟨7, _⟩ => ⟨S8x2048, .f32⟩
  | .hbm, ⟨8, _⟩ => ⟨S_, .i32⟩
  | .hbm, ⟨9, _⟩ => ⟨S1, .i32⟩
  | .hbm, ⟨10, _⟩ => ⟨S8x2048, .f32⟩
  | .hbm, ⟨11, _⟩ => ⟨S2x1x6144, .f32⟩
  | .hbm, ⟨12, _⟩ => ⟨S2x3x8x1x2048, .f32⟩
  | .hbm, ⟨13, _⟩ => ⟨S2x2048x6272, .bf16⟩
  | .hbm, ⟨14, _⟩ => ⟨S2x1x2048, .f32⟩
  | .hbm, ⟨15, _⟩ => ⟨S4x4096x6272, .bf16⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x8x1x1024, .f32⟩
  | .local _ .vmem, ⟨6, _⟩ => ⟨S1x1x8x1x1024, .f32⟩
  | .local _ .vmem, ⟨7, _⟩ => ⟨S1x256x2048, .f32⟩
  | .local _ .vmem, ⟨8, _⟩ => ⟨S1x256x2048, .f32⟩
  | .local _ .vmem, ⟨9, _⟩ => ⟨S1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S1x2048x6272, .bf16⟩
  | .local _ .vmem, ⟨15, _⟩ => ⟨S1x256x6272, .bf16⟩
  | .local _ .vmem, ⟨16, _⟩ => ⟨S1x256x6272, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, c0_i32_11.toNat, v26.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, arg0.toNat, c0_i32.toNat, c0_i32_1.toNat]

def cc1_transform_3 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048x6272 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x6272 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference3Ideal.lean ====
abbrev S4x4096x2048 : Shape := ⟨3, ![4, 4096, 2048]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x6272 : Shape := ⟨3, ![2, 2048, 6272]⟩
abbrev S1x2048x6144 : Shape := ⟨3, ![1, 2048, 6144]⟩
abbrev S2048x6144 : Shape := ⟨2, ![2048, 6144]⟩
abbrev S1x6144 : Shape := ⟨2, ![1, 6144]⟩
abbrev S6144 : Shape := ⟨1, ![6144]⟩
abbrev S_ : Shape := ⟨0, ![]⟩
abbrev S4x6144 : Shape := ⟨2, ![4, 6144]⟩
abbrev S4x1x6144 : Shape := ⟨3, ![4, 1, 6144]⟩
abbrev S4x1x2048 : Shape := ⟨3, ![4, 1, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S1x2048x6272 : Shape := ⟨3, ![1, 2048, 6272]⟩
abbrev S2048x6272 : Shape := ⟨2, ![2048, 6272]⟩
abbrev S4x4096x6272 : Shape := ⟨3, ![4, 4096, 6272]⟩
abbrev S4x4096x4096 : Shape := ⟨3, ![4, 4096, 4096]⟩
abbrev S4x4096x128 : Shape := ⟨3, ![4, 4096, 128]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2x2048x6144, .f32⟩
  | .hbm, ⟨3, _⟩ => ⟨S2x6144, .f32⟩
  | .hbm, ⟨4, _⟩ => ⟨S2x2048, .f32⟩
  | .hbm, ⟨5, _⟩ => ⟨S2x2048x6272, .f32⟩
  | .hbm, ⟨6, _⟩ => ⟨S1x2048x6144, .f32⟩
  | .hbm, ⟨7, _⟩ => ⟨S2048x6144, .f32⟩
  | .hbm, ⟨8, _⟩ => ⟨S1x6144, .f32⟩
  | .hbm, ⟨9, _⟩ => ⟨S6144, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x6144, .f32⟩
  | .hbm, ⟨20, _⟩ => ⟨S1x6144, .f32⟩
  | .hbm, ⟨21, _⟩ => ⟨S4x6144, .f32⟩
  | .hbm, ⟨22, _⟩ => ⟨S4x6144, .f32⟩
  | .hbm, ⟨23, _⟩ => ⟨S4x1x6144, .f32⟩
  | .hbm, ⟨24, _⟩ => ⟨S4x1x2048, .f32⟩
  | .hbm, ⟨25, _⟩ => ⟨S4x1x2048, .f32⟩
  | .hbm, ⟨26, _⟩ => ⟨S4x1x2048, .f32⟩
  | .hbm, ⟨27, _⟩ => ⟨S1x2048, .f32⟩
  | .hbm, ⟨28, _⟩ => ⟨S2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S1x2048x6272, .f32⟩
  | .hbm, ⟨53, _⟩ => ⟨S2048x6272, .f32⟩
  | .hbm, ⟨54, _⟩ => ⟨S4x4096x6272, .f32⟩
  | .hbm, ⟨55, _⟩ => ⟨S4x4096x4096, .f32⟩
  | .hbm, ⟨56, _⟩ => ⟨S4x4096x2048, .f32⟩
  | .hbm, ⟨57, _⟩ => ⟨S4x4096x128, .f32⟩
  | .hbm, ⟨58, _⟩ => ⟨S4x4096x6272, .f32⟩
  | .hbm, ⟨59, _⟩ => ⟨S4x4096x6272, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x3136 : Shape := ⟨3, ![2, 2048, 3136]⟩
abbrev S_ : Shape := ⟨0, ![]⟩
abbrev S8x2048 : Shape := ⟨2, ![8, 2048]⟩
abbrev S1 : Shape := ⟨1, ![1]⟩
abbrev S2x1x6144 : Shape := ⟨3, ![2, 1, 6144]⟩
abbrev S2x3x8x1x2048 : Shape := ⟨5, ![2, 3, 8, 1, 2048]⟩
abbrev S1x2048x1024 : Shape := ⟨3, ![1, 2048, 1024]⟩
abbrev S1x1x1024 : Shape := ⟨3, ![1, 1, 1024]⟩
abbrev S1x1x8x1x1024 : Shape := ⟨5, ![1, 1, 8, 1, 1024]⟩
abbrev S2048x1024 : Shape := ⟨2, ![2048, 1024]⟩
abbrev S8x1024 : Shape := ⟨2, ![8, 1024]⟩
abbrev S1x1024 : Shape := ⟨2, ![1, 1024]⟩
abbrev S2x2048x2048 : Shape := ⟨3, ![2, 2048, 2048]⟩
abbrev S2x2048x1088 : Shape := ⟨3, ![2, 2048, 1088]⟩
abbrev S2x2048x64 : Shape := ⟨3, ![2, 2048, 64]⟩
abbrev S2x2048x3200 : Shape := ⟨3, ![2, 2048, 3200]⟩
abbrev S2x1x2048 : Shape := ⟨3, ![2, 1, 2048]⟩
abbrev S4x4096x3200 : Shape := ⟨3, ![4, 4096, 3200]⟩
abbrev S1x512x2048 : Shape := ⟨3, ![1, 512, 2048]⟩
abbrev S1x1x2048 : Shape := ⟨3, ![1, 1, 2048]⟩
abbrev S1x1x1x1x2048 : Shape := ⟨5, ![1, 1, 1, 1, 2048]⟩
abbrev S1x2048x3200 : Shape := ⟨3, ![1, 2048, 3200]⟩
abbrev S1x512x3200 : Shape := ⟨3, ![1, 512, 3200]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩
abbrev S1x512x1024 : Shape := ⟨3, ![1, 512, 1024]⟩
abbrev S1x2048x128 : Shape := ⟨3, ![1, 2048, 128]⟩
abbrev S2048x128 : Shape := ⟨2, ![2048, 128]⟩
abbrev S512x128 : Shape := ⟨2, ![512, 128]⟩
abbrev S1x512x128 : Shape := ⟨3, ![1, 512, 128]⟩

abbrev nBuf : Space → Nat
  | .hbm => 21
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2x2048x6144, .f32⟩
  | .hbm, ⟨3, _⟩ => ⟨S2x6144, .f32⟩
  | .hbm, ⟨4, _⟩ => ⟨S2x2048, .f32⟩
  | .hbm, ⟨5, _⟩ => ⟨S2x2048x3136, .f32⟩
  | .hbm, ⟨6, _⟩ => ⟨S_, .f32⟩
  | .hbm, ⟨7, _⟩ => ⟨S8x2048, .f32⟩
  | .hbm, ⟨8, _⟩ => ⟨S_, .i32⟩
  | .hbm, ⟨9, _⟩ => ⟨S1, .i32⟩
  | .hbm, ⟨10, _⟩ => ⟨S8x2048, .f32⟩
  | .hbm, ⟨11, _⟩ => ⟨S2x1x6144, .f32⟩
  | .hbm, ⟨12, _⟩ => ⟨S2x3x8x1x2048, .f32⟩
  | .hbm, ⟨13, _⟩ => ⟨S2x2048x2048, .f32⟩
  | .hbm, ⟨14, _⟩ => ⟨S2x2048x1088, .f32⟩
  | .hbm, ⟨15, _⟩ => ⟨S_, .f32⟩
  | .hbm, ⟨16, _⟩ => ⟨S2x2048x64, .f32⟩
  | .hbm, ⟨17, _⟩ => ⟨S2x2048x3200, .f32⟩
  | .hbm, ⟨18, _⟩ => ⟨S2x2048x3200, .bf16⟩
  | .hbm, ⟨19, _⟩ => ⟨S2x1x2048, .f32⟩
  | .hbm, ⟨20, _⟩ => ⟨S4x4096x3200, .bf16⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x8x1x1024, .f32⟩
  | .local _ .vmem, ⟨6, _⟩ => ⟨S1x1x8x1x1024, .f32⟩
  | .local _ .vmem, ⟨7, _⟩ => ⟨S1x512x2048, .f32⟩
  | .local _ .vmem, ⟨8, _⟩ => ⟨S1x512x2048, .f32⟩
  | .local _ .vmem, ⟨9, _⟩ => ⟨S1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S1x2048x3200, .bf16⟩
  | .local _ .vmem, ⟨15, _⟩ => ⟨S1x512x3200, .bf16⟩
  | .local _ .vmem, ⟨16, _⟩ => ⟨S1x512x3200, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, c0_i32_11.toNat, v26.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, arg0.toNat, c0_i32.toNat, c0_i32_1.toNat]

def cc1_transform_3 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x2048x3200 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x3200 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference4Ideal.lean ====
abbrev S4x4096x2048 : Shape := ⟨3, ![4, 4096, 2048]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x3136 : Shape := ⟨3, ![2, 2048, 3136]⟩
abbrev S1x2048x6144 : Shape := ⟨3, ![1, 2048, 6144]⟩
abbrev S2048x6144 : Shape := ⟨2, ![2048, 6144]⟩
abbrev S1x6144 : Shape := ⟨2, ![1, 6144]⟩
abbrev S6144 : Shape := ⟨1, ![6144]⟩
abbrev S_ : Shape := ⟨0, ![]⟩
abbrev S4x6144 : Shape := ⟨2, ![4, 6144]⟩
abbrev S4x1x6144 : Shape := ⟨3, ![4, 1, 6144]⟩
abbrev S4x1x2048 : Shape := ⟨3, ![4, 1, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S1x2048x3136 : Shape := ⟨3, ![1, 2048, 3136]⟩
abbrev S2048x3136 : Shape := ⟨2, ![2048, 3136]⟩
abbrev S4x4096x3136 : Shape := ⟨3, ![4, 4096, 3136]⟩
abbrev S4x4096x1088 : Shape := ⟨3, ![4, 4096, 1088]⟩
abbrev S4x4096x3200 : Shape := ⟨3, ![4, 4096, 3200]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2x2048x6144, .f32⟩
  | .hbm, ⟨3, _⟩ => ⟨S2x6144, .f32⟩
  | .hbm, ⟨4, _⟩ => ⟨S2x2048, .f32⟩
  | .hbm, ⟨5, _⟩ => ⟨S2x2048x3136, .f32⟩
  | .hbm, ⟨6, _⟩ => ⟨S1x2048x6144, .f32⟩
  | .hbm, ⟨7, _⟩ => ⟨S2048x6144, .f32⟩
  | .hbm, ⟨8, _⟩ => ⟨S1x6144, .f32⟩
  | .hbm, ⟨9, _⟩ => ⟨S6144, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x6144, .f32⟩
  | .hbm, ⟨20, _⟩ => ⟨S1x6144, .f32⟩
  | .hbm, ⟨21, _⟩ => ⟨S4x6144, .f32⟩
  | .hbm, ⟨22, _⟩ => ⟨S4x6144, .f32⟩
  | .hbm, ⟨23, _⟩ => ⟨S4x1x6144, .f32⟩
  | .hbm, ⟨24, _⟩ => ⟨S4x1x2048, .f32⟩
  | .hbm, ⟨25, _⟩ => ⟨S4x1x2048, .f32⟩
  | .hbm, ⟨26, _⟩ => ⟨S4x1x2048, .f32⟩
  | .hbm, ⟨27, _⟩ => ⟨S1x2048, .f32⟩
  | .hbm, ⟨28, _⟩ => ⟨S2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S1x2048x3136, .f32⟩
  | .hbm, ⟨53, _⟩ => ⟨S2048x3136, .f32⟩
  | .hbm, ⟨54, _⟩ => ⟨S4x4096x3136, .f32⟩
  | .hbm, ⟨55, _⟩ => ⟨S4x4096x2048, .f32⟩
  | .hbm, ⟨56, _⟩ => ⟨S4x4096x1088, .f32⟩
  | .hbm, ⟨57, _⟩ => ⟨S4x4096x3136, .f32⟩
  | .hbm, ⟨58, _⟩ => ⟨S_, .i32⟩
  | .hbm, ⟨59, _⟩ => ⟨S_, .f32⟩
  | .hbm, ⟨60, _⟩ => ⟨S4x4096x3200, .f32⟩
  | .hbm, ⟨61, _⟩ => ⟨S4x4096x3200, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x2048 : Shape := ⟨3, ![2, 2048, 2048]⟩
abbrev S4x4096x2048 : Shape := ⟨3, ![4, 4096, 2048]⟩
abbrev S_ : Shape := ⟨0, ![]⟩
abbrev S8x2048 : Shape := ⟨2, ![8, 2048]⟩
abbrev S1 : Shape := ⟨1, ![1]⟩
abbrev S2x1x6144 : Shape := ⟨3, ![2, 1, 6144]⟩
abbrev S2x3x8x1x2048 : Shape := ⟨5, ![2, 3, 8, 1, 2048]⟩
abbrev S1x2048x1024 : Shape := ⟨3, ![1, 2048, 1024]⟩
abbrev S1x1x1024 : Shape := ⟨3, ![1, 1, 1024]⟩
abbrev S1x1x8x1x1024 : Shape := ⟨5, ![1, 1, 8, 1, 1024]⟩
abbrev S2048x1024 : Shape := ⟨2, ![2048, 1024]⟩
abbrev S8x1024 : Shape := ⟨2, ![8, 1024]⟩
abbrev S1x1024 : Shape := ⟨2, ![1, 1024]⟩
abbrev S2x1x2048 : Shape := ⟨3, ![2, 1, 2048]⟩
abbrev S1x512x1024 : Shape := ⟨3, ![1, 512, 1024]⟩
abbrev S1x2048x2048 : Shape := ⟨3, ![1, 2048, 2048]⟩
abbrev S1x1x2048 : Shape := ⟨3, ![1, 1, 2048]⟩
abbrev S1x1x1x1x2048 : Shape := ⟨5, ![1, 1, 1, 1, 2048]⟩
abbrev S1x512x2048 : Shape := ⟨3, ![1, 512, 2048]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 18
  | .vmem => 19
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x2048, .f32⟩
  | .hbm, ⟨3, _⟩ => ⟨S2x2048x6144, .f32⟩
  | .hbm, ⟨4, _⟩ => ⟨S2x6144, .f32⟩
  | .hbm, ⟨5, _⟩ => ⟨S2x2048, .f32⟩
  | .hbm, ⟨6, _⟩ => ⟨S2x2048x2048, .f32⟩
  | .hbm, ⟨7, _⟩ => ⟨S4x4096x2048, .f32⟩
  | .hbm, ⟨8, _⟩ => ⟨S_, .f32⟩
  | .hbm, ⟨9, _⟩ => ⟨S8x2048, .f32⟩
  | .hbm, ⟨10, _⟩ => ⟨S_, .i32⟩
  | .hbm, ⟨11, _⟩ => ⟨S1, .i32⟩
  | .hbm, ⟨12, _⟩ => ⟨S8x2048, .f32⟩
  | .hbm, ⟨13, _⟩ => ⟨S2x1x6144, .f32⟩
  | .hbm, ⟨14, _⟩ => ⟨S2x3x8x1x2048, .f32⟩
  | .hbm, ⟨15, _⟩ => ⟨S2x2048x2048, .bf16⟩
  | .hbm, ⟨16, _⟩ => ⟨S2x1x2048, .f32⟩
  | .hbm, ⟨17, _⟩ => ⟨S4x4096x2048, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x8x1x1024, .f32⟩
  | .local _ .vmem, ⟨6, _⟩ => ⟨S1x1x8x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x2048x2048, .bf16⟩
  | .local _ .vmem, ⟨12, _⟩ => ⟨S1x1x2048, .f32⟩
  | .local _ .vmem, ⟨13, _⟩ => ⟨S1x1x1x1x2048, .f32⟩
  | .local _ .vmem, ⟨14, _⟩ => ⟨S1x1x1x1x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .f32⟩
  | .local _ .vmem, ⟨18, _⟩ => ⟨S1x512x2048, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, c0_i32_11.toNat, v26.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== Reference5Ideal.lean ====
abbrev S4x4096x1024 : Shape := ⟨3, ![4, 4096, 1024]⟩
abbrev S4x2048 : Shape := ⟨2, ![4, 2048]⟩
abbrev S2x2048x6144 : Shape := ⟨3, ![2, 2048, 6144]⟩
abbrev S2x6144 : Shape := ⟨2, ![2, 6144]⟩
abbrev S2x2048 : Shape := ⟨2, ![2, 2048]⟩
abbrev S2x2048x2048 : Shape := ⟨3, ![2, 2048, 2048]⟩
abbrev S4x4096x2048 : Shape := ⟨3, ![4, 4096, 2048]⟩
abbrev S1x2048x6144 : Shape := ⟨3, ![1, 2048, 6144]⟩
abbrev S2048x6144 : Shape := ⟨2, ![2048, 6144]⟩
abbrev S1x6144 : Shape := ⟨2, ![1, 6144]⟩
abbrev S6144 : Shape := ⟨1, ![6144]⟩
abbrev S_ : Shape := ⟨0, ![]⟩
abbrev S4x6144 : Shape := ⟨2, ![4, 6144]⟩
abbrev S4x1x6144 : Shape := ⟨3, ![4, 1, 6144]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x2048, .f32⟩
  | .hbm, ⟨3, _⟩ => ⟨S2x2048x6144, .f32⟩
  | .hbm, ⟨4, _⟩ => ⟨S2x6144, .f32⟩
  | .hbm, ⟨5, _⟩ => ⟨S2x2048, .f32⟩
  | .hbm, ⟨6, _⟩ => ⟨S2x2048x2048, .f32⟩
  | .hbm, ⟨7, _⟩ => ⟨S4x4096x2048, .f32⟩
  | .hbm, ⟨8, _⟩ => ⟨S1x2048x6144, .f32⟩
  | .hbm, ⟨9, _⟩ => ⟨S2048x6144, .f32⟩
  | .hbm, ⟨10, _⟩ => ⟨S1x6144, .f32⟩
  | .hbm, ⟨11, _⟩ => ⟨S6144, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S4x6144, .f32⟩
  | .hbm, ⟨22, _⟩ => ⟨S1x6144, .f32⟩
  | .hbm, ⟨23, _⟩ => ⟨S4x6144, .f32⟩
  | .hbm, ⟨24, _⟩ => ⟨S4x6144, .f32⟩
  | .hbm, ⟨25, _⟩ => ⟨S4x1x6144, .f32⟩
  | .hbm, ⟨26, _⟩ => ⟨S4x1x2048, .f32⟩
  | .hbm, ⟨27, _⟩ => ⟨S4x1x2048, .f32⟩
  | .hbm, ⟨28, _⟩ => ⟨S4x1x2048, .f32⟩
  | .hbm, ⟨29, _⟩ => ⟨S4x4096x1024, .f32⟩
  | .hbm, ⟨30, _⟩ => ⟨S4x4096x1024, .f32⟩
  | .hbm, ⟨31, _⟩ => ⟨S4x4096x2048, .f32⟩
  | .hbm, ⟨32, _⟩ => ⟨S1x2048x2048, .f32⟩
  | .hbm, ⟨33, _⟩ => ⟨S2048x2048, .f32⟩
  | .hbm, ⟨34, _⟩ => ⟨S4x4096x2048, .f32⟩
  | .hbm, ⟨35, _⟩ => ⟨S1x2048, .f32⟩
  | .hbm, ⟨36, _⟩ => ⟨S2048, .f32⟩
  | .hbm, ⟨37, _⟩ => ⟨S4x4096x2048, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x2048, .f32⟩
  | .hbm, ⟨49, _⟩ => ⟨S4x4096x2048, .f32⟩
  | .hbm, ⟨50, _⟩ => ⟨S1x1x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel6.lean ====
abbrev S4x4096x3200 : Shape := ⟨3, ![4, 4096, 3200]⟩
abbrev S4x4096 : Shape := ⟨2, ![4, 4096]⟩
abbrev S2x512 : Shape := ⟨2, ![2, 512]⟩
abbrev S2x512x3072 : Shape := ⟨3, ![2, 512, 3072]⟩
abbrev S2x512x4096 : Shape := ⟨3, ![2, 512, 4096]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x128 : Shape := ⟨3, ![4, 4096, 128]⟩
abbrev S2x512x16x192 : Shape := ⟨4, ![2, 512, 16, 192]⟩
abbrev S2x512x16x256 : Shape := ⟨4, ![2, 512, 16, 256]⟩
abbrev S2x1x512 : Shape := ⟨3, ![2, 1, 512]⟩
abbrev S4x16x4096x256 : Shape := ⟨4, ![4, 16, 4096, 256]⟩
abbrev S4x16x4096x128 : Shape := ⟨4, ![4, 16, 4096, 128]⟩
abbrev S1x512x512 : Shape := ⟨3, ![1, 512, 512]⟩
abbrev S1x512x128 : Shape := ⟨3, ![1, 512, 128]⟩
abbrev S1x1x512 : Shape := ⟨3, ![1, 1, 512]⟩
abbrev S1x512x4096 : Shape := ⟨3, ![1, 512, 4096]⟩
abbrev S1x16x512x256 : Shape := ⟨4, ![1, 16, 512, 256]⟩
abbrev S1x16x512x128 : Shape := ⟨4, ![1, 16, 512, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x128 : Shape := ⟨2, ![512, 128]⟩
abbrev S1x512x256 : Shape := ⟨3, ![1, 512, 256]⟩
abbrev S512x256 : Shape := ⟨2, ![512, 256]⟩
abbrev S1x1x512x256 : Shape := ⟨4, ![1, 1, 512, 256]⟩
abbrev S1x1x512x128 : Shape := ⟨4, ![1, 1, 512, 128]⟩

abbrev nBuf : Space → Nat
  | .hbm => 47
  | .vmem => 20
  | .smem => 0
  | _ => 0

abbrev bufTy : (tb : Table) → Fin (tcTables nBuf tb) → BufTy
  | .hbm, ⟨0, _⟩ => ⟨S4x4096x3200, .bf16⟩
  | .hbm, ⟨1, _⟩ => ⟨S4x4096, .i32⟩
  | .hbm, ⟨2, _⟩ => ⟨S2x512, .f32⟩
  | .hbm, ⟨3, _⟩ => ⟨S2x512x3072, .f32⟩
  | .hbm, ⟨4, _⟩ => ⟨S2x512, .f32⟩
  | .hbm, ⟨5, _⟩ => ⟨S2x512x4096, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4x4096, .f32⟩
  | .hbm, ⟨23, _⟩ => ⟨S4x4096x1, .f32⟩
  | .hbm, ⟨24, _⟩ => ⟨S1x1x32, .f32⟩
  | .hbm, ⟨25, _⟩ => ⟨S4x4096x32, .f32⟩
  | .hbm, ⟨26, _⟩ => ⟨S4x4096x32, .f32⟩
  | .hbm, ⟨27, _⟩ => ⟨S4x4096x32, .f32⟩
  | .hbm, ⟨28, _⟩ => ⟨S4x4096x32, .f32⟩
  | .hbm, ⟨29, _⟩ => ⟨S4x4096x32, .f32⟩
  | .hbm, ⟨30, _⟩ => ⟨S_, .f32⟩
  | .hbm, ⟨31, _⟩ => ⟨S4x4096x32, .f32⟩
  | .hbm, ⟨32, _⟩ => ⟨S4x4096x128, .f32⟩
  | .hbm, ⟨33, _⟩ => ⟨S4x4096x32, .f32⟩
  | .hbm, ⟨34, _⟩ => ⟨S4x4096x128, .f32⟩
  | .hbm, ⟨35, _⟩ => ⟨S2x512x16x192, .f32⟩
  | .hbm, ⟨36, _⟩ => ⟨S_, .i32⟩
  | .hbm, ⟨37, _⟩ => ⟨S_, .f32⟩
  | .hbm, ⟨38, _⟩ => ⟨S2x512x16x256, .f32⟩
  | .hbm, ⟨39, _⟩ => ⟨S2x512x4096, .f32⟩
  | .hbm, ⟨40, _⟩ => ⟨S2x512x4096, .bf16⟩
  | .hbm, ⟨41, _⟩ => ⟨S2x512x4096, .bf16⟩
  | .hbm, ⟨42, _⟩ => ⟨S2x1x512, .f32⟩
  | .hbm, ⟨43, _⟩ => ⟨S2x1x512, .f32⟩
  | .hbm, ⟨44, _⟩ => ⟨S4x16x4096x256, .bf16⟩
  | .hbm, ⟨45, _⟩ => ⟨S4x16x4096x256, .bf16⟩
  | .hbm, ⟨46, _⟩ => ⟨S4x16x4096x128, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1x512, .f32⟩
  | .local _ .vmem, ⟨11, _⟩ => ⟨S1x1x512, .f32⟩
  | .local _ .vmem, ⟨12, _⟩ => ⟨S1x512x4096, .bf16⟩
  | .local _ .vmem, ⟨13, _⟩ => ⟨S1x512x4096, .bf16⟩
  | .local _ .vmem, ⟨14, _⟩ => ⟨S1x16x512x256, .bf16⟩
  | .local _ .vmem, ⟨15, _⟩ => ⟨S1x16x512x256, .bf16⟩
  | .local _ .vmem, ⟨16, _⟩ => ⟨S1x16x512x256, .bf16⟩
  | .local _ .vmem, ⟨17, _⟩ => ⟨S1x16x512x256, .bf16⟩
  | .local _ .vmem, ⟨18, _⟩ => ⟨S1x16x512x128, .bf16⟩
  | .local _ .vmem, ⟨19, _⟩ => ⟨S1x16x512x128, .bf16⟩
  | _, _ => ⟨S4x4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S4x4096x3200 : Shape := ⟨3, ![4, 4096, 3200]⟩
abbrev S4x4096 : Shape := ⟨2, ![4, 4096]⟩
abbrev S2x512 : Shape := ⟨2, ![2, 512]⟩
abbrev S2x512x3072 : Shape := ⟨3, ![2, 512, 3072]⟩
abbrev S2x512x4096 : Shape := ⟨3, ![2, 512, 4096]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x512 : Shape := ⟨3, ![4, 4096, 512]⟩
abbrev S4x4096x64 : Shape := ⟨3, ![4, 4096, 64]⟩
abbrev S1x512 : Shape := ⟨2, ![1, 512]⟩
abbrev S512 : Shape := ⟨1, ![512]⟩
abbrev S1x1x512 : Shape := ⟨3, ![1, 1, 512]⟩
abbrev S1x512x3072 : Shape := ⟨3, ![1, 512, 3072]⟩
abbrev S512x3072 : Shape := ⟨2, ![512, 3072]⟩
abbrev S4x4096x3072 : Shape := ⟨3, ![4, 4096, 3072]⟩
abbrev S4x4096x16x192 : Shape := ⟨4, ![4, 4096, 16, 192]⟩
abbrev S1x512x4096 : Shape := ⟨3, ![1, 512, 4096]⟩
abbrev S512x4096 : Shape := ⟨2, ![512, 4096]⟩
abbrev S4x4096x4096 : Shape := ⟨3, ![4, 4096, 4096]⟩
abbrev S4x4096x16x256 : Shape := ⟨4, ![4, 4096, 16, 256]⟩
abbrev S4x4096x16x64 : Shape := ⟨4, ![4, 4096, 16, 64]⟩
abbrev S4x4096x1x32 : Shape := ⟨4, ![4, 4096, 1, 32]⟩
abbrev S4x4096x16x32 : Shape := ⟨4, ![4, 4096, 16, 32]⟩
abbrev S4x4096x1x64 : Shape := ⟨4, ![4, 4096, 1, 64]⟩
abbrev S4x4096x16x128 : Shape := ⟨4, ![4, 4096, 16, 128]⟩
abbrev S4x16x4096x256 : Shape := ⟨4, ![4, 16, 4096, 256]⟩
abbrev S4x16x4096x128 : Shape := ⟨4, ![4, 16, 4096, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x3200, .bf16⟩
  | .hbm, ⟨1, _⟩ => ⟨S4x4096, .i32⟩
  | .hbm, ⟨2, _⟩ => ⟨S2x512, .f32⟩
  | .hbm, ⟨3, _⟩ => ⟨S2x512x3072, .f32⟩
  | .hbm, ⟨4, _⟩ => ⟨S2x512, .f32⟩
  | .hbm, ⟨5, _⟩ => ⟨S2x512x4096, .f32⟩
  | .hbm, ⟨6, _⟩ => ⟨S4x4096x3200, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4x4096, .f32⟩
  | .hbm, ⟨24, _⟩ => ⟨S4x4096x1, .f32⟩
  | .hbm, ⟨25, _⟩ => ⟨S1x1x32, .f32⟩
  | .hbm, ⟨26, _⟩ => ⟨S4x4096x32, .f32⟩
  | .hbm, ⟨27, _⟩ => ⟨S4x4096x32, .f32⟩
  | .hbm, ⟨28, _⟩ => ⟨S4x4096x32, .f32⟩
  | .hbm, ⟨29, _⟩ => ⟨S4x4096x32, .f32⟩
  | .hbm, ⟨30, _⟩ => ⟨S4x4096x32, .f32⟩
  | .hbm, ⟨31, _⟩ => ⟨S4x4096x512, .f32⟩
  | .hbm, ⟨32, _⟩ => ⟨S4x4096x512, .f32⟩
  | .hbm, ⟨33, _⟩ => ⟨S4x4096x64, .f32⟩
  | .hbm, ⟨34, _⟩ => ⟨S1x512, .f32⟩
  | .hbm, ⟨35, _⟩ => ⟨S512, .f32⟩
  | .hbm, ⟨36, _⟩ => ⟨S4x4096x512, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x512, .f32⟩
  | .hbm, ⟨48, _⟩ => ⟨S4x4096x512, .f32⟩
  | .hbm, ⟨49, _⟩ => ⟨S1x1x512, .f32⟩
  | .hbm, ⟨50, _⟩ => ⟨S4x4096x512, .f32⟩
  | .hbm, ⟨51, _⟩ => ⟨S4x4096x512, .f32⟩
  | .hbm, ⟨52, _⟩ => ⟨S1x512x3072, .f32⟩
  | .hbm, ⟨53, _⟩ => ⟨S512x3072, .f32⟩
  | .hbm, ⟨54, _⟩ => ⟨S4x4096x3072, .f32⟩
  | .hbm, ⟨55, _⟩ => ⟨S4x4096x16x192, .f32⟩
  | .hbm, ⟨56, _⟩ => ⟨S_, .f32⟩
  | .hbm, ⟨57, _⟩ => ⟨S4x4096x16x192, .f32⟩
  | .hbm, ⟨58, _⟩ => ⟨S4x4096x16x192, .f32⟩
  | .hbm, ⟨59, _⟩ => ⟨S1x512, .f32⟩
  | .hbm, ⟨60, _⟩ => ⟨S512, .f32⟩
  | .hbm, ⟨61, _⟩ => ⟨S4x4096x512, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1, .f32⟩
  | .hbm, ⟨72, _⟩ => ⟨S4x4096x512, .f32⟩
  | .hbm, ⟨73, _⟩ => ⟨S4x4096x512, .f32⟩
  | .hbm, ⟨74, _⟩ => ⟨S1x1x512, .f32⟩
  | .hbm, ⟨75, _⟩ => ⟨S4x4096x512, .f32⟩
  | .hbm, ⟨76, _⟩ => ⟨S4x4096x512, .f32⟩
  | .hbm, ⟨77, _⟩ => ⟨S1x512x4096, .f32⟩
  | .hbm, ⟨78, _⟩ => ⟨S512x4096, .f32⟩
  | .hbm, ⟨79, _⟩ => ⟨S4x4096x4096, .f32⟩
  | .hbm, ⟨80, _⟩ => ⟨S4x4096x16x256, .f32⟩
  | .hbm, ⟨81, _⟩ => ⟨S4x4096x16x64, .f32⟩
  | .hbm, ⟨82, _⟩ => ⟨S4x4096x1x32, .f32⟩
  | .hbm, ⟨83, _⟩ => ⟨S4x4096x1x32, .f32⟩
  | .hbm, ⟨84, _⟩ => ⟨S4x4096x16x32, .f32⟩
  | .hbm, ⟨85, _⟩ => ⟨S4x4096x16x32, .f32⟩
  | .hbm, ⟨86, _⟩ => ⟨S4x4096x16x32, .f32⟩
  | .hbm, ⟨87, _⟩ => ⟨S4x4096x16x32, .f32⟩
  | .hbm, ⟨88, _⟩ => ⟨S4x4096x16x32, .f32⟩
  | .hbm, ⟨89, _⟩ => ⟨S4x4096x16x32, .f32⟩
  | .hbm, ⟨90, _⟩ => ⟨S4x4096x16x32, .f32⟩
  | .hbm, ⟨91, _⟩ => ⟨S4x4096x16x32, .f32⟩
  | .hbm, ⟨92, _⟩ => ⟨S4x4096x16x32, .f32⟩
  | .hbm, ⟨93, _⟩ => ⟨S4x4096x16x32, .f32⟩
  | .hbm, ⟨94, _⟩ => ⟨S4x4096x16x32, .f32⟩
  | .hbm, ⟨95, _⟩ => ⟨S4x4096x16x32, .f32⟩
  | .hbm, ⟨96, _⟩ => ⟨S4x4096x16x64, .f32⟩
  | .hbm, ⟨97, _⟩ => ⟨S4x4096x32, .f32⟩
  | .hbm, ⟨98, _⟩ => ⟨S4x4096x32, .f32⟩
  | .hbm, ⟨99, _⟩ => ⟨S4x4096x32, .f32⟩
  | .hbm, ⟨100, _⟩ => ⟨S4x4096x32, .f32⟩
  | .hbm, ⟨101, _⟩ => ⟨S4x4096x32, .f32⟩
  | .hbm, ⟨102, _⟩ => ⟨S4x4096x32, .f32⟩
  | .hbm, ⟨103, _⟩ => ⟨S4x4096x32, .f32⟩
  | .hbm, ⟨104, _⟩ => ⟨S4x4096x32, .f32⟩
  | .hbm, ⟨105, _⟩ => ⟨S4x4096x64, .f32⟩
  | .hbm, ⟨106, _⟩ => ⟨S4x4096x1x64, .f32⟩
  | .hbm, ⟨107, _⟩ => ⟨S4x4096x16x64, .f32⟩
  | .hbm, ⟨108, _⟩ => ⟨S_, .f32⟩
  | .hbm, ⟨109, _⟩ => ⟨S4x4096x16x64, .f32⟩
  | .hbm, ⟨110, _⟩ => ⟨S4x4096x16x128, .f32⟩
  | .hbm, ⟨111, _⟩ => ⟨S4x4096x16x256, .f32⟩
  | .hbm, ⟨112, _⟩ => ⟨S4x4096x16x128, .f32⟩
  | .hbm, ⟨113, _⟩ => ⟨S4x4096x16x256, .f32⟩
  | .hbm, ⟨114, _⟩ => ⟨S4x16x4096x256, .f32⟩
  | .hbm, ⟨115, _⟩ => ⟨S4x16x4096x256, .bf16⟩
  | .hbm, ⟨116, _⟩ => ⟨S4x16x4096x256, .f32⟩
  | .hbm, ⟨117, _⟩ => ⟨S4x16x4096x256, .bf16⟩
  | .hbm, ⟨118, _⟩ => ⟨S4x4096x16x128, .f32⟩
  | .hbm, ⟨119, _⟩ => ⟨S4x16x4096x128, .f32⟩
  | .hbm, ⟨120, _⟩ => ⟨S4x16x4096x128, .bf16⟩
  | _, _ => ⟨S4x4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proof.Attn.Vocab.lean ====
module

public import proofs.«01_k».proof.Proof.Gen.KernelIdeal.Value

/-!
The attention body in its own words, over any float values: a query sub-block of 512 rows meets the
key blocks `0, 1, …` one after another and carries the running row maximum and the running sum of
weighted rows of `v ‖ 1`; the last block is masked to the lower triangle and the quotient of the two
halves of the sum is stored.
-/

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The 512 rows of block `i` lie inside the 4096 rows of a width-256 array. -/
theorem inb256 (i : Fin 8) :
    ∀ a, (![0, 0, 512 * (i : ℕ), 0] : Fin 4 → ℕ) a + S1x1x512x256.size a ≤ S1x1x4096x256.size a := by
  revert i; decide

/-- The 512 rows of block `i` lie inside the 4096 rows of a width-128 array. -/
theorem inb128 (i : Fin 8) :
    ∀ a, (![0, 0, 512 * (i : ℕ), 0] : Fin 4 → ℕ) a + S1x1x512x128.size a ≤ S1x1x4096x128.size a := by
  revert i; decide

/-- The 512 rows of block `i` lie inside the 4096 rows of the result's block. -/
theorem inbOut (i : Fin 8) :
    ∀ a, (![0, 512 * (i : ℕ), 0] : Fin 3 → ℕ) a + S1x512x128.size a ≤ S1x4096x128.size a := by
  revert i; decide

/-- Block `i` of 512 rows of the queries or of the keys. -/
def rows256 (x : Vec F S1x1x4096x256 .bf16) (i : Fin 8) : FVec F S512x256 .bf16 :=
  shapeCast S512x256 (View.ld x (Rect.unit ![0, 0, 512 * (i : ℕ), 0] S1x1x512x256.size (inb256 i)))
    shapeCasts_S1x1x512x256_S512x256

/-- Block `d` of 512 rows of the values, with as many columns of ones beside them. -/
def rowsOnes (x : Vec F S1x1x4096x128 .bf16) (d : Fin 8) : FVec F S512x256 .bf16 :=
  concatenate S512x256 1
    [⟨S512x128, shapeCast S512x128
        (View.ld x (Rect.unit ![0, 0, 512 * (d : ℕ), 0] S1x1x512x128.size (inb128 d)))
        shapeCasts_S1x1x512x128_S512x128⟩,
     ⟨S512x128, broadcast S512x128 (Scalar.ofBits .bf16 0x3F80#16)⟩]
    concatenates_S512x128_S512x128_S512x256_d1

/-- The scores of one query sub-block against one key block. -/
def score (q k : FVec F S512x256 .bf16) : FVec F S512x512 .f32 :=
  matmul dot_S512x256_S512x256_S512x512_1_1_0_0_n_n none q k (constant S512x512 .f32 0x00000000#32)

/-- Row index at least column index, inside a square block of 512. -/
def lower : IVec S512x512 1 :=
  cmpi .sge (iota .tc S512x512 32 [0] iota_S512x512_d0_w32)
    (iota .tc S512x512 32 [1] iota_S512x512_d1_w32)

/-- The scores with those above the diagonal replaced by the mask. -/
def masked (s : FVec F S512x512 .f32) : FVec F S512x512 .f32 :=
  select lower s (broadcast S512x512 (Named.named κ "mask" 0xF149F2CA#32))

/-- The running row maximum after one more block of scores. -/
def newMax (s : FVec F S512x512 .f32) (μ : FVec F S512x1 .f32) : FVec F S512x1 .f32 :=
  maximumf μ (shapeCast S512x1
    (multiReduction .maximumf [1] S512 s 0xFF800000#32 reduces_S512x512_S512 (.inl rfl) rfl)
    shapeCasts_S512_S512x1)

/-- The running sum after one more block: the old one rescaled to the new maximum, and the block's
    rows of `v ‖ 1` weighted by the powers of two of its scores less that maximum. -/
def newAcc (s : FVec F S512x512 .f32) (v : FVec F S512x256 .bf16) (μ : FVec F S512x1 .f32)
    (acc : FVec F S512x256 .f32) : FVec F S512x256 .f32 :=
  addf (mulf (broadcastTo S512x256 (exp2 (subf μ (newMax s μ))) broadcasts_S512x1_S512x256) acc)
    (matmul dot_S512x512_S512x256_S512x256_1_0_0_1_n_n none
      (truncf .bf16 (exp2 (subf s (broadcastTo S512x512 (newMax s μ) broadcasts_S512x1_S512x512)))
        bitsLt_bf16_f32) v (constant S512x256 .f32 0x00000000#32))

/-- What a query sub-block carries: its running row maximum and running sum. -/
abbrev Carry (F : FTy → Type) [FloatOps F] := FVec F S512x1 .f32 × FVec F S512x256 .f32

/-- The carry before any key block. -/
def start : Carry F :=
  (broadcast S512x1 (Named.named κ "mask" 0xF149F2CA#32), broadcast S512x256 (Scalar.ofBits .f32 0x00000000#32))

/-- One more key block. -/
def step (s : FVec F S512x512 .f32) (v : FVec F S512x256 .bf16) (c : Carry F) : Carry F :=
  (newMax s c.1, newAcc s v c.1 c.2)

/-- The carry of query sub-block `q` after the first `n` key blocks, none of them masked. -/
def carried (q : FVec F S512x256 .bf16) (k : Vec F S1x1x4096x256 .bf16) (v : Vec F S1x1x4096x128 .bf16) :
    (n : ℕ) → n ≤ 8 → Carry F
  | 0, _ => start
  | n + 1, h => step (score q (rows256 k ⟨n, h⟩)) (rowsOnes v ⟨n, h⟩) (carried q k v n (Nat.le_of_succ_le h))

/-- The carry of query sub-block `i` after all its key blocks, the last one masked. -/
def final (q k : Vec F S1x1x4096x256 .bf16) (v : Vec F S1x1x4096x128 .bf16) (i : Fin 8) : Carry F :=
  step (masked (score (rows256 q i) (rows256 k i))) (rowsOnes v i)
    (carried (rows256 q i) k v i i.isLt.le)

/-- What is stored of a running sum: its first half over its second. -/
def quot (acc : FVec F S512x256 .f32) : Vec F S1x512x128 .bf16 :=
  shapeCast S1x512x128
    (truncf .bf16 (divf (extractStridedSlice S512x128 ![0, 0] acc slices_S512x256_o0_0_S512x128)
      (extractStridedSlice S512x128 ![0, 128] acc slices_S512x256_o0_128_S512x128)) bitsLt_bf16_f32)
    shapeCasts_S512x128_S1x512x128

/-- The piece that sub-block `i` writes of the result's block. -/
def piece (q k : Vec F S1x1x4096x256 .bf16) (v : Vec F S1x1x4096x128 .bf16) (i : Fin 8) :
    View.Piece (Elt F) S1x4096x128 .bf16 :=
  ⟨Rect.unit ![0, 512 * (i : ℕ), 0] S1x512x128.size (inbOut i), quot (final q k v i).2⟩

end Cert.KernelIdeal.Attn
-- ==== Proof.Attn.Pieces.lean ====
module

public import proofs.«01_k».proof.Proof.Attn.Vocab

/-!
The body's stores: the eight pieces of the attention body's own words.
-/

@[expose] public section

set_option maxRecDepth 1000000

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The third grid coordinate, the number of the query tile, is zero: one tile holds all queries. -/
theorem coord2 (i : grid0.Coords) : (i 2 : ℕ) = 0 := by
  have h : (i 2 : ℕ) < 1 := (i 2).isLt
  omega

/-- The loop over the key blocks before the query tile runs no time. -/
theorem trips_before : Scf.trips 0#32
    (Scalar.addi 0#32 (Scalar.muli (Scalar.divsi (Scalar.subi (BitVec.ofNat 32 0) 0#32) 1#32) 1#32)) 1#32 = 0 := by
  decide

/-- Nor does the loop over what the first one's unrolling leaves. -/
theorem trips_rest : Scf.trips
    (Scalar.addi 0#32 (Scalar.muli (Scalar.divsi (Scalar.subi (BitVec.ofNat 32 0) 0#32) 1#32) 1#32))
    (Scalar.addi (0#32) (Scalar.subi (BitVec.ofNat 32 0) 0#32)) 1#32 = 0 := by
  decide

/-- The grid point with its third coordinate written out. -/
def pt (a : Fin 4) (b : Fin 16) : grid0.Coords
  | ⟨0, _⟩ => a
  | ⟨1, _⟩ => b
  | ⟨2, _⟩ => (0 : Fin 1)

theorem eq_pt (i : grid0.Coords) : ∃ a b, i = pt a b := by
  refine ⟨i 0, i 1, funext fun a => ?_⟩
  match a with
  | ⟨0, _⟩ => rfl
  | ⟨1, _⟩ => rfl
  | ⟨2, _⟩ => exact Fin.ext (coord2 i)

set_option maxHeartbeats 4000000 in
/-- What the body stores at any grid point, last store first. -/
theorem pieces_eq (c : Dev nD) (i : grid0.Coords) (arg3 : Memref sig .tc .vmem S1x1x4096x256 .bf16) (harg3 : arg3.IsWhole)
    (arg4 : Memref sig .tc .vmem S1x1x4096x256 .bf16) (harg4 : arg4.IsWhole)
    (arg5 : Memref sig .tc .vmem S1x1x4096x128 .bf16) (harg5 : arg5.IsWhole)
    (arg6 : Memref sig .tc .vmem S1x4096x128 .bf16) (harg6 : arg6.IsWhole)
    (q k : Vec F S1x1x4096x256 .bf16) (v : Vec F S1x1x4096x128 .bf16) :
    (kernelRun0_A c i arg3 harg3 arg4 harg4 arg5 harg5 arg6 harg6 q k v).1
      = [piece q k v 7, piece q k v 6, piece q k v 5, piece q k v 4, piece q k v 3, piece q k v 2, piece q k v 1,
          piece q k v 0] := by
  obtain ⟨a, b, rfl⟩ := eq_pt i
  unfold kernelRun0_A
  dsimp only
  sl_unfold_words
  simp only [View.readAt_eq_ld, harg3.read_unread, harg4.read_unread, harg5.read_unread, coord2, trips_before,
    trips_rest, st_k0_t1, st_k0_t2]
  sl_kernel_rfl

end Cert.KernelIdeal.Attn
-- ==== Proof.Attn.Flash.lean ====
module

public import proofs.«01_k».proof.Proof.Gen.KernelIdeal.Value

/-!
The running softmax of one row over the extended reals, block after block of 512 scores, and its
agreement with the softmax taken at once. Scores are reals, or `⊥` where masked; the values weighted
are any extended reals.
-/

@[expose] public section

noncomputable section

namespace Cert.KernelIdeal.Flash

open Idealize.ShloMosaic Finset

/-- The greatest score of the first `n` blocks. -/
def rowMax (sc : ℕ → Fin 512 → EReal) : ℕ → EReal
  | 0 => ⊥
  | n + 1 => max (rowMax sc n) (univ.sup (sc n))

/-- The running weighted sum of the first `n` blocks, rescaled whenever the maximum moves. -/
def rowAcc (sc v : ℕ → Fin 512 → EReal) : ℕ → EReal
  | 0 => 0
  | n + 1 => Ideal.exp2 (rowMax sc n - rowMax sc (n + 1)) * rowAcc sc v n
      + ∑ t, Ideal.exp2 (sc n t - rowMax sc (n + 1)) * v n t

/-- A power of two of a real is a positive real. -/
theorem exp2_real (r : ℝ) : Ideal.exp2 (r : EReal) = ((2 : ℝ) ^ r : ℝ) := rfl

theorem exp2_bot : Ideal.exp2 ⊥ = 0 := rfl

/-- Rescaling a weight from one real maximum to another. -/
theorem exp2_rescale (a b : ℝ) (x : EReal) (hx : x ≠ ⊤) :
    Ideal.exp2 ((a : EReal) - b) * Ideal.exp2 (x - a) = Ideal.exp2 (x - b) := by
  induction x using EReal.rec with
  | bot => rw [EReal.bot_sub, EReal.bot_sub, exp2_bot, mul_zero]
  | top => exact absurd rfl hx
  | coe x =>
    rw [← EReal.coe_sub, ← EReal.coe_sub, ← EReal.coe_sub, exp2_real, exp2_real, exp2_real,
      ← EReal.coe_mul, ← Real.rpow_add two_pos]
    congr 2; ring

/-- A nonnegative real multiple of a sum of extended reals is the sum of the multiples. -/
theorem mul_sum_real {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [sum_insert hi, sum_insert hi, EReal.left_distrib_of_nonneg_of_ne_top (by exact_mod_cast ha) (EReal.coe_ne_top a), ih]

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- Scores a row may hold: none is `⊤`, and the first block has one that is not `⊥`. -/
structure Row (sc : ℕ → Fin 512 → EReal) : Prop where
  ne_top : ∀ n t, sc n t ≠ ⊤
  some_real : ∃ t, sc 0 t ≠ ⊥

theorem le_rowMax (sc : ℕ → Fin 512 → EReal) {d n : ℕ} (h : d < n) (t : Fin 512) : sc d t ≤ rowMax sc n := by
  induction n with
  | zero => omega
  | succ n ih =>
    rcases Nat.lt_succ_iff_lt_or_eq.1 h with h | rfl
    · exact (ih h).trans (le_max_left _ _)
    · exact (le_sup (f := sc d) (mem_univ t)).trans (le_max_right _ _)

theorem rowMax_le (sc : ℕ → Fin 512 → EReal) (n : ℕ) (b : EReal) (h : ∀ d < n, ∀ t, sc d t ≤ b) : rowMax sc n ≤ b := by
  induction n with
  | zero => exact bot_le
  | succ n ih =>
    exact max_le (ih fun d hd => h d (by omega)) (Finset.sup_le fun t _ => h n (by omega) t)

theorem rowMax_ne_top {sc : ℕ → Fin 512 → EReal} (h : Row sc) (n : ℕ) : rowMax sc n ≠ ⊤ := by
  induction n with
  | zero => exact bot_ne_top (α := EReal)
  | succ n ih =>
    have h2 : univ.sup (sc n) < ⊤ :=
      (Finset.sup_lt_iff (by exact bot_lt_top)).2 fun t _ => lt_top_iff_ne_top.2 (h.ne_top n t)
    exact (max_lt (lt_top_iff_ne_top.2 ih) h2).ne

/-- After at least one block the running maximum is a real. -/
theorem rowMax_real {sc : ℕ → Fin 512 → EReal} (h : Row sc) {n : ℕ} (hn : 0 < n) : ∃ r : ℝ, rowMax sc n = r := by
  obtain ⟨t, ht⟩ := h.some_real
  have hb : rowMax sc n ≠ ⊥ := fun e => ht (le_bot_iff.1 (e ▸ le_rowMax sc hn t))
  exact ⟨(rowMax sc n).toReal, (EReal.coe_toReal (rowMax_ne_top h n) hb).symm⟩

/-- The running sum is the sum of all weights taken against the final maximum. -/
theorem rowAcc_eq {sc : ℕ → Fin 512 → EReal} (h : Row sc) (v : ℕ → Fin 512 → EReal) (n : ℕ) :
    rowAcc sc v n = ∑ d ∈ range n, ∑ t, Ideal.exp2 (sc d t - rowMax sc n) * v d t := by
  induction n with
  | zero => simp [rowAcc]
  | succ n ih =>
    rw [rowAcc, sum_range_succ]
    congr 1
    rcases Nat.eq_zero_or_pos n with rfl | hn
    · simp [rowAcc]
    · obtain ⟨a, ha⟩ := rowMax_real h hn
      obtain ⟨b, hb⟩ := rowMax_real h (Nat.succ_pos n)
      rw [ih, hb, ha, ← EReal.coe_sub, exp2_real, mul_sum_real _ (Real.rpow_nonneg two_pos.le _)]
      refine sum_congr rfl fun d _ => ?_
      rw [mul_sum_real _ (Real.rpow_nonneg two_pos.le _)]
      refine sum_congr rfl fun t _ => ?_
      rw [← mul_assoc, ← exp2_real, EReal.coe_sub, exp2_rescale a b _ (h.ne_top d t)]

/-- A quotient by a positive real is the product with its inverse. -/
theorem div_real (x : EReal) {r : ℝ} (hr : 0 < r) : Ideal.div x (r : EReal) = ((r⁻¹ : ℝ) : EReal) * x := by
  have h0 : (r : EReal) ≠ 0 := by exact_mod_cast hr.ne'
  rw [Ideal.div, if_neg h0, EReal.coe_inv, mul_comm]

theorem weight_real {x : EReal} (hx : x ≠ ⊤) (m : ℝ) : ∃ r : ℝ, 0 ≤ r ∧ Ideal.exp2 (x - m) = r := by
  induction x using EReal.rec with
  | bot => exact ⟨0, le_rfl, by rw [EReal.bot_sub, exp2_bot]; rfl⟩
  | top => exact absurd rfl hx
  | coe x => exact ⟨2 ^ (x - m), Real.rpow_nonneg two_pos.le _, by rw [← EReal.coe_sub, exp2_real]⟩

/-- The sum of all weights is a positive real. -/
theorem total_pos {sc : ℕ → Fin 512 → EReal} (h : Row sc) {n : ℕ} (hn : 0 < n) (m : ℝ) :
    ∃ r : ℝ, 0 < r ∧ ∑ d ∈ range n, ∑ t, Ideal.exp2 (sc d t - m) = (r : EReal) := by
  choose w hw0 hw using fun d t => weight_real (h.ne_top d t) m
  refine ⟨∑ d ∈ range n, ∑ t, w d t, ?_, ?_⟩
  · obtain ⟨t, ht⟩ := h.some_real
    have hpos : 0 < w 0 t := by
      obtain ⟨s, hs⟩ : ∃ s : ℝ, sc 0 t = s := ⟨_, (EReal.coe_toReal (h.ne_top 0 t) ht).symm⟩
      have e := hw 0 t
      rw [hs, ← EReal.coe_sub, exp2_real] at e
      rw [← EReal.coe_injective e]
      exact Real.rpow_pos_of_pos two_pos _
    refine lt_of_lt_of_le hpos ?_
    exact (single_le_sum (f := w 0) (fun t _ => hw0 0 t) (mem_univ t)).trans
      (single_le_sum (f := fun d => ∑ t, w d t) (fun d _ => sum_nonneg fun t _ => hw0 d t) (mem_range.2 hn))
  · rw [coe_sum]
    simp only [coe_sum]
    exact sum_congr rfl fun d _ => sum_congr rfl fun t _ => hw d t

/-- The quotient of the two running sums after `n` of `N` blocks, the scores of the later blocks all
    masked, is the softmax of the whole row applied to the values: each weight over their total,
    times its value, summed. -/
theorem quotient_eq {sc : ℕ → Fin 512 → EReal} (h : Row sc) (v : ℕ → Fin 512 → EReal) {n N : ℕ} (hn : 0 < n)
    (hN : n ≤ N) (hm : ∀ d, n ≤ d → ∀ t, sc d t = ⊥) :
    Ideal.div (rowAcc sc v n) (rowAcc sc (fun _ _ => 1) n)
      = ∑ d ∈ range N, ∑ t, Ideal.div (Ideal.exp2 (sc d t - rowMax sc N))
          (∑ d ∈ range N, ∑ t, Ideal.exp2 (sc d t - rowMax sc N)) * v d t := by
  have hM : rowMax sc N = rowMax sc n :=
    le_antisymm (rowMax_le sc N _ fun d _ t => by
      rcases lt_or_ge d n with hd | hd
      · exact le_rowMax sc hd t
      · rw [hm d hd t]; exact bot_le)
      (rowMax_le sc n _ fun d hd t => le_rowMax sc (hd.trans_le hN) t)
  obtain ⟨m, hm'⟩ := rowMax_real h hn
  have hz : ∀ d, n ≤ d → ∀ t, Ideal.exp2 (sc d t - m) = 0 := fun d hd t => by
    rw [hm d hd t, EReal.bot_sub, exp2_bot]
  have cut : ∀ g : ℕ → EReal, (∀ d, n ≤ d → g d = 0) → ∑ d ∈ range N, g d = ∑ d ∈ range n, g d := fun g hg =>
    (sum_subset (range_mono hN) fun d _ hd => hg d (by simpa using hd)).symm
  obtain ⟨r, hr, hS⟩ := total_pos h hn m
  rw [rowAcc_eq h, rowAcc_eq h, hM, hm']
  simp only [mul_one]
  rw [cut (fun d => ∑ t, Ideal.exp2 (sc d t - m)) fun d hd => sum_eq_zero fun t _ => hz d hd t, hS,
    cut _ fun d hd => sum_eq_zero fun t _ => by rw [hz d hd t, div_real _ hr, mul_zero, zero_mul],
    div_real _ hr, mul_sum_real _ (inv_nonneg.2 hr.le)]
  refine sum_congr rfl fun d _ => ?_
  rw [mul_sum_real _ (inv_nonneg.2 hr.le)]
  refine sum_congr rfl fun t _ => ?_
  rw [div_real _ hr, mul_assoc]

end Cert.KernelIdeal.Flash
-- ==== Proof.Attn.Rows.lean ====
module

public import proofs.«01_k».proof.Proof.Attn.Vocab
public import proofs.«01_k».proof.Proof.Attn.Flash
public import Idealize.ShloMosaic.Lib.MatmulPlain
public import Idealize.ShloMosaic.Lib.IdealHost
public import Idealize.ShloMosaic.Lib.ValueIdx
public import Idealize.ShloMosaic.Lib.WordCmp
public import Idealize.ShloMosaic.Lib.KernelVsHost
public import Idealize.ShloMosaic.Lib.Pointwise.Reshape
public import Idealize.ShloMosaic.PureOps.Ideal.Laws
public import Idealize.ShloMosaic.Lib.Pipeline.ValueKit.Tiles

/-!
The attention body read over the extended reals, one row of the queries at a time: the running maximum
and the running sum that a row carries are the ones of `Flash`.
-/

@[expose] public section

set_option maxRecDepth 16384

noncomputable section

namespace Cert.KernelIdeal.Attn

open Cert.KernelIdeal Cert.KernelIdeal.Gen Idealize.ShloMosaic.TcCoe Idealize.SL.Sem
open Idealize.ShloMosaic hiding ix1 ix2 ix3 ix4
open Idealize.ShloMosaic.ValueIdx Cert.KernelIdeal.Flash
open scoped BigOperators

/-- Position `r` of block `i` among the 4096. -/
def at8 (i : Fin 8) (r : Fin 512) : Fin 4096 := ⟨512 * (i : ℕ) + r, by omega⟩

theorem rows256_apply (x : Vec Ideal S1x1x4096x256 .bf16) (i : Fin 8) (r : Fin 512) (e : Fin 256) :
    rows256 x i (ix2 r e) = x (ix4 (0 : Fin 1) (0 : Fin 1) (at8 i r) e) := by
  unfold rows256
  rw [shapeCast_apply _ _ _ (ix4 (0 : Fin 1) (0 : Fin 1) r e)
    (by rw [rowMajor_val4 _ _ _ _ rfl rfl rfl, rowMajor_val2 _ _ rfl]; simp [ix4, ix2]),
    View.ld_unit_apply_of _ _ _ _ _ (ix4 (0 : Fin 1) (0 : Fin 1) (at8 i r) e)]
  intro a
  match a with
  | ⟨0, _⟩ => rfl
  | ⟨1, _⟩ => rfl
  | ⟨2, _⟩ => rfl
  | ⟨3, _⟩ => exact (Nat.zero_add _).symm

theorem rowsOnes_left (x : Vec Ideal S1x1x4096x128 .bf16) (d : Fin 8) (t : Fin 512) (c : Fin 128) :
    rowsOnes x d (ix2 t (⟨c, by omega⟩ : Fin 256)) = x (ix4 (0 : Fin 1) (0 : Fin 1) (at8 d t) c) := by
  unfold rowsOnes
  rw [concatenate_pair_apply_left (t := S512x256) (s₁ := S512x128) (s₂ := S512x128) 1 _ _ _ _ rfl (ix2 t c)
    (fun b => by match b with | ⟨0, _⟩ => rfl | ⟨1, _⟩ => rfl),
    shapeCast_apply _ _ _ (ix4 (0 : Fin 1) (0 : Fin 1) t c)
    (by rw [rowMajor_val4 _ _ _ _ rfl rfl rfl, rowMajor_val2 _ _ rfl]; simp [ix4, ix2]),
    View.ld_unit_apply_of _ _ _ _ _ (ix4 (0 : Fin 1) (0 : Fin 1) (at8 d t) c)]
  intro a
  match a with
  | ⟨0, _⟩ => rfl
  | ⟨1, _⟩ => rfl
  | ⟨2, _⟩ => rfl
  | ⟨3, _⟩ => exact (Nat.zero_add _).symm

theorem rowsOnes_right (x : Vec Ideal S1x1x4096x128 .bf16) (d : Fin 8) (t : Fin 512) (c : Fin 128) :
    rowsOnes x d (ix2 t (⟨128 + c, by omega⟩ : Fin 256)) = (1 : EReal) := by
  unfold rowsOnes
  rw [concatenate_pair_apply_right (t := S512x256) (s₁ := S512x128) (s₂ := S512x128) 1 _ _ _ _ rfl rfl (ix2 t c)
    (fun b hb => by match b with | ⟨0, _⟩ => rfl | ⟨1, _⟩ => exact absurd rfl hb)
    (by show (c : ℕ) + 128 = 128 + c; omega)]
  exact Ideal.ofBits_one_bf16

theorem score_apply (q k : FVec Ideal S512x256 .bf16) (r t : Fin 512) :
    score q k (ix2 r t) = ∑ e : Fin 256, q (ix2 r e) * k (ix2 t e) := by
  unfold score
  have h := Ideal.matmul_transposedRhs_apply (M := 512) (K := 256) (N := 512) none q k
    (constant S512x512 .f32 0x00000000#32) r t
  refine h.trans ?_
  show Ideal.ofBits .f32 0x00000000#32 + _ = _
  rw [Ideal.ofBits_zero_f32, zero_add]

theorem lower_apply (r t : Fin 512) : lower (ix2 r t) = if t ≤ r then 1#1 else 0#1 := by
  unfold lower
  show IntOp.cmpi .sge (iota .tc S512x512 32 [0] iota_S512x512_d0_w32 (ix2 r t))
    (iota .tc S512x512 32 [1] iota_S512x512_d1_w32 (ix2 r t)) = _
  rw [iota_single_apply, iota_single_apply]
  show IntOp.cmpi .sge (BitVec.ofNat 32 (r : ℕ)) (BitVec.ofNat 32 (t : ℕ)) = _
  rw [WordCmp.cmpi_sge_ofNat (by omega) (by omega)]
  by_cases h : t ≤ r
  · rw [if_pos h, decide_eq_true (show (t : ℕ) ≤ r from h)]; rfl
  · rw [if_neg h, decide_eq_false (show ¬(t : ℕ) ≤ r from h)]; rfl

theorem masked_apply (s : FVec Ideal S512x512 .f32) (r t : Fin 512) :
    masked s (ix2 r t) = if t ≤ r then s (ix2 r t) else ⊥ := by
  unfold masked
  show Scalar.select (lower (ix2 r t)) (s (ix2 r t)) (Named.named κ "mask" 0xF149F2CA#32) = _
  rw [lower_apply]
  split
  · rfl
  · exact IdealRules.named_const.ideal_named_scalar _ _ _ _ rfl

/-- The pattern of minus infinity. -/
theorem ofBits_negInf : Ideal.ofBits .f32 0xFF800000#32 = ⊥ := by simp [Ideal.ofBits, Ideal.ieee]

theorem newMax_apply (s : FVec Ideal S512x512 .f32) (μ : FVec Ideal S512x1 .f32) (r : Fin 512) :
    newMax s μ (ix2 r (0 : Fin 1)) = max (μ (ix2 r (0 : Fin 1))) (Finset.univ.sup fun t : Fin 512 => s (ix2 r t)) := by
  unfold newMax
  refine congrArg (max (μ (ix2 r (0 : Fin 1)))) ?_
  rw [shapeCast_apply _ _ _ (ix1 r)
    (by rw [rowMajor_val1, rowMajor_val2 _ _ rfl]; simp [ix1, ix2])]
  refine (Ideal.multiReduction_maximumf_single (a := (1 : Fin S512x512.rank)) s _ reduces_S512x512_S512 _ _
    (ix1 r)).trans ?_
  show Finset.fold max (Ideal.ofBits .f32 0xFF800000#32) _ _ = _
  rw [ofBits_negInf]
  refine congrArg (fun f => Finset.fold max (⊥ : EReal) f Finset.univ) (funext fun t => ?_)
  exact congrArg s (funext fun a => Fin.ext (by match a with | ⟨0, _⟩ => rfl | ⟨1, _⟩ => rfl))

theorem newAcc_apply (s : FVec Ideal S512x512 .f32) (v : FVec Ideal S512x256 .bf16) (μ : FVec Ideal S512x1 .f32)
    (acc : FVec Ideal S512x256 .f32) (r : Fin 512) (c : Fin 256) :
    newAcc s v μ acc (ix2 r c)
      = Ideal.exp2 (μ (ix2 r (0 : Fin 1)) - newMax s μ (ix2 r (0 : Fin 1))) * acc (ix2 r c)
        + ∑ t : Fin 512, Ideal.exp2 (s (ix2 r t) - newMax s μ (ix2 r (0 : Fin 1))) * v (ix2 t c) := by
  unfold newAcc
  generalize newMax s μ = M
  have hb : ∀ (x : FVec Ideal S512x1 .f32) (t : Fin 512),
      broadcastTo S512x512 x broadcasts_S512x1_S512x512 (ix2 r t) = x (ix2 r (0 : Fin 1)) := fun x t =>
    broadcastTo_apply _ _ _ _ fun a => by match a with | ⟨0, _⟩ => rfl | ⟨1, _⟩ => rfl
  have hc : ∀ (x : FVec Ideal S512x1 .f32),
      broadcastTo S512x256 x broadcasts_S512x1_S512x256 (ix2 r c) = x (ix2 r (0 : Fin 1)) := fun x =>
    broadcastTo_apply _ _ _ _ fun a => by match a with | ⟨0, _⟩ => rfl | ⟨1, _⟩ => rfl
  refine congrArg₂ (fun a b : EReal => a + b) ?_ ?_
  · exact congrArg (· * acc (ix2 r c)) (hc _)
  · refine (Ideal.matmul_plain_apply (M := 512) (K := 512) (N := 256) none _ v _ r c).trans ?_
    show Ideal.ofBits .f32 0x00000000#32 + _ = _
    rw [Ideal.ofBits_zero_f32, zero_add]
    refine Finset.sum_congr rfl fun t _ => ?_
    show Ideal.exp2 (s (ix2 r t) - broadcastTo S512x512 M broadcasts_S512x1_S512x512 (ix2 r t)) * _ = _
    rw [hb]

theorem quot_apply (acc : FVec Ideal S512x256 .f32) (r : Fin 512) (c : Fin 128) :
    quot acc (ix3 (0 : Fin 1) r c)
      = Ideal.div (acc (ix2 r (⟨c, by omega⟩ : Fin 256))) (acc (ix2 r (⟨128 + c, by omega⟩ : Fin 256))) := by
  unfold quot
  rw [shapeCast_apply _ _ _ (ix2 r c)
    (by rw [rowMajor_val3 _ _ _ rfl rfl, rowMajor_val2 _ _ rfl]; simp [ix3, ix2])]
  refine congrArg₂ Ideal.div ?_ ?_
  · exact extractStridedSlice_apply _ _ _ _ _ fun a => by
      match a with | ⟨0, _⟩ => exact (Nat.zero_add _).symm | ⟨1, _⟩ => exact (Nat.zero_add _).symm
  · exact extractStridedSlice_apply _ _ _ _ _ fun a => by
      match a with | ⟨0, _⟩ => exact (Nat.zero_add _).symm | ⟨1, _⟩ => rfl

/-- The score of query `r` against key `s`, minus infinity where the key comes after the query. -/
def causal (q k : Vec Ideal S1x1x4096x256 .bf16) (r s : Fin 4096) : EReal :=
  if s ≤ r then ∑ e : Fin 256, q (ix4 (0 : Fin 1) (0 : Fin 1) r e) * k (ix4 (0 : Fin 1) (0 : Fin 1) s e) else ⊥

/-- The scores of query `r`, block of keys by block of keys. -/
def blockScores (q k : Vec Ideal S1x1x4096x256 .bf16) (r : Fin 4096) (d : ℕ) (t : Fin 512) : EReal :=
  if h : d < 8 then causal q k r (at8 ⟨d, h⟩ t) else ⊥

/-- Column `c` of `v ‖ 1`, block by block. -/
def blockCol (v : Vec Ideal S1x1x4096x128 .bf16) (c : Fin 256) (d : ℕ) (t : Fin 512) : EReal :=
  if h : d < 8 then rowsOnes v ⟨d, h⟩ (ix2 t c) else 1

/-- One block more: if the carry of row `r` is the running maximum and sum of the first `n` blocks, the
    next one is that of the first `n + 1`. -/
theorem step_apply {sc w : ℕ → Fin 512 → EReal} {s : FVec Ideal S512x512 .f32} {vb : FVec Ideal S512x256 .bf16}
    {C : Carry Ideal} {r : Fin 512} {c : Fin 256} {n : ℕ} (hs : ∀ t, s (ix2 r t) = sc n t)
    (hv : ∀ t, vb (ix2 t c) = w n t) (h1 : C.1 (ix2 r (0 : Fin 1)) = rowMax sc n)
    (h2 : C.2 (ix2 r c) = rowAcc sc w n) :
    (step s vb C).1 (ix2 r (0 : Fin 1)) = rowMax sc (n + 1) ∧ (step s vb C).2 (ix2 r c) = rowAcc sc w (n + 1) := by
  have e1 : newMax s C.1 (ix2 r (0 : Fin 1)) = rowMax sc (n + 1) := by
    rw [newMax_apply, h1, rowMax]
    exact congrArg (fun f => max (rowMax sc n) (Finset.univ.sup f)) (funext hs)
  refine ⟨e1, ?_⟩
  show newAcc s vb C.1 C.2 (ix2 r c) = _
  rw [newAcc_apply, e1, h1, h2, rowAcc]
  refine congrArg (_ + ·) (Finset.sum_congr rfl fun t _ => ?_)
  rw [hs, hv]

theorem score_rows (q k : Vec Ideal S1x1x4096x256 .bf16) (i d : Fin 8) (r t : Fin 512) :
    score (rows256 q i) (rows256 k d) (ix2 r t)
      = ∑ e : Fin 256, q (ix4 (0 : Fin 1) (0 : Fin 1) (at8 i r) e) * k (ix4 (0 : Fin 1) (0 : Fin 1) (at8 d t) e) := by
  rw [score_apply]
  exact Finset.sum_congr rfl fun e _ => by rw [rows256_apply, rows256_apply]

/-- Before its diagonal block a row carries the running maximum and sum of its causal scores. -/
theorem carried_apply (q k : Vec Ideal S1x1x4096x256 .bf16) (v : Vec Ideal S1x1x4096x128 .bf16) (i : Fin 8)
    (r : Fin 512) (c : Fin 256) : ∀ (n : ℕ) (h : n ≤ 8), n ≤ (i : ℕ) →
      (carried (rows256 q i) k v n h).1 (ix2 r (0 : Fin 1)) = rowMax (blockScores q k (at8 i r)) n
      ∧ (carried (rows256 q i) k v n h).2 (ix2 r c) = rowAcc (blockScores q k (at8 i r)) (blockCol v c) n
  | 0, _, _ => ⟨IdealRules.named_const.ideal_named_scalar _ _ _ _ rfl, Ideal.ofBits_zero_f32⟩
  | n + 1, h, hi => by
    obtain ⟨h1, h2⟩ := carried_apply q k v i r c n (Nat.le_of_succ_le h) (Nat.le_of_succ_le hi)
    refine step_apply (fun t => ?_) (fun t => ?_) h1 h2
    · rw [score_rows, blockScores, dif_pos (Nat.lt_of_succ_le h), causal, if_pos]
      show 512 * n + (t : ℕ) ≤ 512 * (i : ℕ) + r
      omega
    · rw [blockCol, dif_pos (Nat.lt_of_succ_le h)]

/-- After its diagonal block too. -/
theorem final_apply (q k : Vec Ideal S1x1x4096x256 .bf16) (v : Vec Ideal S1x1x4096x128 .bf16) (i : Fin 8)
    (r : Fin 512) (c : Fin 256) :
    (final q k v i).2 (ix2 r c) = rowAcc (blockScores q k (at8 i r)) (blockCol v c) (i + 1) := by
  obtain ⟨h1, h2⟩ := carried_apply q k v i r c i i.isLt.le le_rfl
  refine (step_apply (fun t => ?_) (fun t => ?_) h1 h2).2
  · rw [masked_apply, score_rows, blockScores, dif_pos i.isLt, causal]
    refine if_congr ?_ rfl rfl
    show (t : ℕ) ≤ r ↔ 512 * (i : ℕ) + t ≤ 512 * (i : ℕ) + r
    omega
  · rw [blockCol, dif_pos i.isLt]

theorem at8_surj (s : Fin 4096) : ∃ d t, s = at8 d t :=
  ⟨⟨(s : ℕ) / 512, by omega⟩, ⟨(s : ℕ) % 512, by omega⟩, Fin.ext (by show (s : ℕ) = 512 * (s / 512) + s % 512; omega)⟩

/-- A sum over blocks of positions is the sum over the positions. -/
theorem sum_blocks (f : ℕ → Fin 512 → EReal) (g : Fin 4096 → EReal) (h : ∀ (d : Fin 8) t, f d t = g (at8 d t)) :
    ∑ d ∈ Finset.range 8, ∑ t, f d t = ∑ s, g s := by
  rw [Finset.sum_range, ← Fintype.sum_prod_type' (fun (d : Fin 8) (t : Fin 512) => f d t),
    ← Equiv.sum_comp (finProdFinEquiv (m := 8) (n := 512)) g]
  refine Finset.sum_congr rfl fun x _ => (h x.1 x.2).trans (congrArg g (Fin.ext ?_))
  show 512 * (x.1 : ℕ) + x.2 = x.2 + 512 * x.1
  omega

/-- Attention of query `r` in column `c`: the values weighted by the base-two softmax of its causal scores. -/
def attention (q k : Vec Ideal S1x1x4096x256 .bf16) (v : Vec Ideal S1x1x4096x128 .bf16) (r : Fin 4096)
    (c : Fin 128) : EReal :=
  ∑ s, Ideal.div (Ideal.exp2 (causal q k r s - Finset.univ.sup (causal q k r)))
      (∑ s, Ideal.exp2 (causal q k r s - Finset.univ.sup (causal q k r)))
    * v (ix4 (0 : Fin 1) (0 : Fin 1) s c)

theorem rowMax_blocks (q k : Vec Ideal S1x1x4096x256 .bf16) (r : Fin 4096) :
    rowMax (blockScores q k r) 8 = Finset.univ.sup (causal q k r) := by
  refine le_antisymm (rowMax_le _ _ _ fun d hd t => ?_) (Finset.sup_le fun s _ => ?_)
  · rw [blockScores, dif_pos hd]
    exact Finset.le_sup (f := causal q k r) (Finset.mem_univ _)
  · obtain ⟨d, t, rfl⟩ := at8_surj s
    refine le_trans (le_of_eq ?_) (le_rowMax (blockScores q k r) d.isLt t)
    rw [blockScores, dif_pos d.isLt]

theorem sum_real {ι : Type} [Fintype ι] (f : ι → EReal) (h : ∀ i, ∃ x : ℝ, f i = x) : ∃ x : ℝ, ∑ i, f i = x := by
  choose g hg using h
  exact ⟨∑ i, g i, by rw [coe_sum]; exact Finset.sum_congr rfl fun i _ => hg i⟩

/-- With finite queries and keys a row's causal scores are never plus infinity, and its first one is finite. -/
theorem row_scores (q k : Vec Ideal S1x1x4096x256 .bf16) (hq : ∀ j, ∃ x : ℝ, q j = x) (hk : ∀ j, ∃ x : ℝ, k j = x)
    (r : Fin 4096) : Row (blockScores q k r) := by
  have hs : ∀ s : Fin 4096, ∃ x : ℝ,
      ∑ e : Fin 256, q (ix4 (0 : Fin 1) (0 : Fin 1) r e) * k (ix4 (0 : Fin 1) (0 : Fin 1) s e) = x := fun s =>
    sum_real _ fun e => by
      obtain ⟨x, hx⟩ := hq (ix4 (0 : Fin 1) (0 : Fin 1) r e)
      obtain ⟨y, hy⟩ := hk (ix4 (0 : Fin 1) (0 : Fin 1) s e)
      exact ⟨x * y, by rw [hx, hy, EReal.coe_mul]⟩
  refine ⟨fun d t => ?_, ⟨0, ?_⟩⟩
  · unfold blockScores causal
    split
    · split
      · obtain ⟨x, hx⟩ := hs (at8 ⟨d, ‹_›⟩ t)
        rw [hx]; exact EReal.coe_ne_top x
      · exact bot_ne_top (α := EReal)
    · exact bot_ne_top (α := EReal)
  · rw [blockScores, dif_pos (by decide), causal,
      if_pos (show at8 ⟨0, by decide⟩ 0 ≤ r from Nat.zero_le (r : ℕ))]
    obtain ⟨x, hx⟩ := hs (at8 ⟨0, by decide⟩ 0)
    rw [hx]; exact EReal.coe_ne_bot x

/-- What the body stores at row `r` of sub-block `i` is attention. -/
theorem quot_final (q k : Vec Ideal S1x1x4096x256 .bf16) (v : Vec Ideal S1x1x4096x128 .bf16)
    (hq : ∀ j, ∃ x : ℝ, q j = x) (hk : ∀ j, ∃ x : ℝ, k j = x) (i : Fin 8) (r : Fin 512) (c : Fin 128) :
    quot (final q k v i).2 (ix3 (0 : Fin 1) r c) = attention q k v (at8 i r) c := by
  rw [quot_apply, final_apply, final_apply]
  have hone : blockCol v (⟨128 + c, by omega⟩ : Fin 256) = fun _ _ => 1 := by
    funext d t; unfold blockCol; split
    · exact rowsOnes_right v _ t c
    · rfl
  rw [hone, quotient_eq (row_scores q k hq hk (at8 i r)) _ (Nat.succ_pos _) (Nat.succ_le_of_lt i.isLt)]
  · have hsum : ∑ d ∈ Finset.range 8, ∑ t, Ideal.exp2 (blockScores q k (at8 i r) d t
          - Finset.univ.sup (causal q k (at8 i r)))
        = ∑ s, Ideal.exp2 (causal q k (at8 i r) s - Finset.univ.sup (causal q k (at8 i r))) :=
      sum_blocks _ _ fun d t => by rw [blockScores, dif_pos d.isLt]
    rw [rowMax_blocks, hsum]
    refine sum_blocks _ _ fun d t => ?_
    rw [blockScores, dif_pos d.isLt, blockCol, dif_pos d.isLt]
    exact congrArg _ (rowsOnes_left v d t c)
  · intro d hd t
    unfold blockScores causal
    split
    · rw [if_neg]
      show ¬ 512 * d + (t : ℕ) ≤ 512 * (i : ℕ) + r
      omega
    · rfl

end Cert.KernelIdeal.Attn
-- ==== Proof.Attn.Ref.lean ====
module

public import proofs.«01_k».proof.Proof.Attn.Rows
public import proofs.«01_k».proof.Proof.Gen.ReferenceIdeal.Read

/-!
The reference read over the extended reals: its result at batch `b`, position `r`, head `h` and column `c`
is the attention of that batch's and head's queries, keys and values.
-/

@[expose] public section

set_option maxRecDepth 16384

noncomputable section

namespace Cert.ReferenceIdeal.Attn

open Cert.ReferenceIdeal Cert.ReferenceIdeal.Gen Cert.ReferenceIdeal.Read Idealize.ShloMosaic.TcCoe Idealize.SL.Sem
open Idealize.ShloMosaic hiding ix1 ix2 ix3 ix4
open Idealize.ShloMosaic.ValueIdx
open Cert.KernelIdeal.Attn (causal attention ofBits_negInf)
open scoped BigOperators

/-- One batch's and head's queries or keys. -/
def head256 (x : (⟨S4x16x4096x256, .bf16⟩ : BufTy).Contents (Elt Ideal)) (b : Fin 4) (h : Fin 16) :
    Vec Ideal Cert.KernelIdeal.S1x1x4096x256 .bf16 := fun j => x (ix4 b h (j 2) (j 3))

/-- One batch's and head's values. -/
def head128 (x : (⟨S4x16x4096x128, .bf16⟩ : BufTy).Contents (Elt Ideal)) (b : Fin 4) (h : Fin 16) :
    Vec Ideal Cert.KernelIdeal.S1x1x4096x128 .bf16 := fun j => x (ix4 b h (j 2) (j 3))

/-- A power of the number two is the power of two. -/
theorem pow_two (x : EReal) : Ideal.pow (Ideal.ofBits .f32 0x40000000#32) x = Ideal.exp2 x := by
  have h2 : Ideal.ofBits .f32 0x40000000#32 = ((2 : ℝ) : EReal) := by
    have e : Ideal.ofBits .f32 0x40000000#32 = ((8388608 * (1 / 4194304) : ℝ) : EReal) := by
      simp [Ideal.ofBits, Ideal.ieee]; norm_num
    rw [e]; norm_num
  rw [h2]
  induction x using EReal.rec with
  | bot =>
    show (if (2 : ℝ) < 0 then (⊥ : EReal) else if (1 : ℝ) < 2 then 0 else if (2 : ℝ) = 1 then 1 else ⊤) = 0
    norm_num
  | coe x => rfl
  | top =>
    show (if (2 : ℝ) < 0 then (⊥ : EReal) else if (1 : ℝ) < 2 then ⊤ else if (2 : ℝ) = 1 then 1 else 0) = ⊤
    norm_num

variable (x0 x1 : (⟨S4x16x4096x256, .bf16⟩ : BufTy).Contents (Elt Ideal))
  (x2 : (⟨S4x16x4096x128, .bf16⟩ : BufTy).Contents (Elt Ideal)) (b : Fin 4) (h : Fin 16)

/-- The masked scores. -/
theorem scores_apply (r s : Fin 4096) :
    val_main_v10 (F := Ideal) x0 x1 (ix4 b h r s) = causal (head256 x0 b h) (head256 x1 b h) r s := by
  rw [val_main_v10_apply, val_main_v2_apply, val_main_call0_v1_apply, val_main_call0_v2_apply, val_main_v9_apply,
    val_main_v7_apply, val_main_v8_apply, val_main_v4_apply, val_main_v6_apply, val_main_v3_apply, val_main_v5_apply]
  show Scalar.select (IntOp.cmpi .sge (BitVec.ofNat 32 (r : ℕ)) (BitVec.ofNat 32 (s : ℕ))) _
    (Ideal.ofBits .f32 0xFF800000#32) = _
  rw [WordCmp.cmpi_sge_ofNat (by omega) (by omega), ofBits_negInf, causal]
  by_cases hs : s ≤ r
  · rw [if_pos hs, decide_eq_true (show (s : ℕ) ≤ r from hs)]
    refine (select_one _ _).trans (Finset.sum_congr rfl fun e _ => congrArg₂ (fun a c : EReal => a * c) ?_ ?_)
    · exact congrArg x0 (funext fun a => by match a with | ⟨0, _⟩ => rfl | ⟨1, _⟩ => rfl | ⟨2, _⟩ => rfl | ⟨3, _⟩ => rfl)
    · exact congrArg x1 (funext fun a => by match a with | ⟨0, _⟩ => rfl | ⟨1, _⟩ => rfl | ⟨2, _⟩ => rfl | ⟨3, _⟩ => rfl)
  · rw [if_neg hs, decide_eq_false (show ¬(s : ℕ) ≤ r from hs)]; rfl

theorem reduces : S4x16x4096x4096.Reduces [3] S4x16x4096 := by decide

/-- A row's maximum. -/
theorem max_apply (r : Fin 4096) :
    val_main_v12 (F := Ideal) x0 x1 (ix3 b h r)
      = Finset.univ.sup (causal (head256 x0 b h) (head256 x1 b h) r) := by
  have e := hostReduce_maximumf_eq_multiReduction (F := Ideal) (φ := .f32) (u := S_) (axes := [3])
    (val_main_v10 (F := Ideal) x0 x1) 0xFF800000#32 reducesTo_S4x16x4096x4096_S4x16x4096_d3 h_S_ reduces (.inl rfl) rfl
  refine (congrFun e (ix3 b h r)).trans ?_
  refine (Ideal.multiReduction_maximumf_single (a := (3 : Fin S4x16x4096x4096.rank)) _ _ reduces _ _ _).trans ?_
  show Finset.fold max (Ideal.ofBits .f32 0xFF800000#32) _ _ = _
  rw [ofBits_negInf]
  refine congrArg (fun f => Finset.fold max (⊥ : EReal) f Finset.univ) (funext fun s => ?_)
  refine Eq.trans ?_ (scores_apply x0 x1 b h r s)
  exact congrArg (val_main_v10 (F := Ideal) x0 x1) (funext fun a => Fin.ext (by
    match a with | ⟨0, _⟩ => rfl | ⟨1, _⟩ => rfl | ⟨2, _⟩ => rfl | ⟨3, _⟩ => rfl))

/-- The weights before they are divided by their sum. -/
theorem weight_apply (r s : Fin 4096) :
    val_main_v16 (F := Ideal) x0 x1 (ix4 b h r s)
      = Ideal.exp2 (causal (head256 x0 b h) (head256 x1 b h) r s
          - Finset.univ.sup (causal (head256 x0 b h) (head256 x1 b h) r)) := by
  rw [val_main_v16_apply, val_main_v11_apply, val_main_cst_0_apply, val_main_v15_apply, val_main_v14_apply,
    val_main_v13_apply, scores_apply, ← max_apply]
  refine (pow_two _).trans ?_
  exact congrArg (fun j => Ideal.exp2 (_ - val_main_v12 (F := Ideal) x0 x1 j)) (funext fun a => by
    match a with | ⟨0, _⟩ => rfl | ⟨1, _⟩ => rfl | ⟨2, _⟩ => rfl)

/-- The sum of a row's weights. -/
theorem total_apply (r : Fin 4096) :
    val_main_v17 (F := Ideal) x0 x1 (ix3 b h r)
      = ∑ s, Ideal.exp2 (causal (head256 x0 b h) (head256 x1 b h) r s
          - Finset.univ.sup (causal (head256 x0 b h) (head256 x1 b h) r)) := by
  rw [val_main_v17_apply, val_main_cst_2_apply]
  show Ideal.ofBits .f32 0x00000000#32 + _ = _
  rw [Ideal.ofBits_zero_f32, zero_add]
  refine Finset.sum_congr rfl fun s _ => ?_
  rw [← weight_apply]
  exact congrArg _ (funext fun a => by
    match a with | ⟨0, _⟩ => rfl | ⟨1, _⟩ => rfl | ⟨2, _⟩ => rfl | ⟨3, _⟩ => rfl)

/-- The result. -/
theorem result_apply (r : Fin 4096) (c : Fin 128) :
    val_main_v25 (F := Ideal) x0 x1 x2 (ix3 b r (⟨128 * h + c, by omega⟩ : Fin 2048))
      = attention (head256 x0 b h) (head256 x1 b h) (head128 x2 b h) r c := by
  rw [val_main_v25_apply, val_main_v24_apply, val_main_v23_apply]
  show val_main_v22 (F := Ideal) x0 x1 x2 _ = _
  rw [show idx_main_v23 (idx_main_v24 (ix3 b r (⟨128 * h + c, by omega⟩ : Fin 2048))) = ix4 b h c r from
    funext fun a => Fin.ext (by
      have := b.isLt; have := r.isLt; have := h.isLt; have := c.isLt
      match a with
      | ⟨0, _⟩ => show (((b : ℕ) * 4096 + r) * 2048 + (128 * h + c)) / 8388608 = b; omega
      | ⟨1, _⟩ => show (((b : ℕ) * 4096 + r) * 2048 + (128 * h + c)) / 128 % 16 = h; omega
      | ⟨2, _⟩ => show (((b : ℕ) * 4096 + r) * 2048 + (128 * h + c)) % 128 = c; omega
      | ⟨3, _⟩ => show (((b : ℕ) * 4096 + r) * 2048 + (128 * h + c)) / 2048 % 4096 = r; omega), val_main_v22_apply,
    attention]
  refine Finset.sum_congr rfl fun s _ => (mul_comm _ _).trans ?_
  rw [show ridx_main_v22 (ix4 b h c r) s = ix4 b h r s from funext fun a => by
      match a with | ⟨0, _⟩ => rfl | ⟨1, _⟩ => rfl | ⟨2, _⟩ => rfl | ⟨3, _⟩ => rfl,
    show lidx_main_v22 (ix4 b h c r) s = ix4 b h s c from funext fun a => by
      match a with | ⟨0, _⟩ => rfl | ⟨1, _⟩ => rfl | ⟨2, _⟩ => rfl | ⟨3, _⟩ => rfl,
    val_main_v20_apply, weight_apply, val_main_v19_apply, val_main_v18_apply,
    show idx_main_v18 (idx_main_v19 (ix4 b h r s)) = ix3 b h r from funext fun a => by
      match a with | ⟨0, _⟩ => rfl | ⟨1, _⟩ => rfl | ⟨2, _⟩ => rfl, total_apply]
  rfl

end Cert.ReferenceIdeal.Attn
-- ==== Proof.Attn.Out.lean ====
module

public import proofs.«01_k».proof.Proof.Attn.Pieces
public import proofs.«01_k».proof.Proof.Attn.Ref
public import proofs.«01_k».proof.Proof.Gen.KernelIdeal.Value
public import proofs.«01_k».proof.Pre_finite
public import Idealize.ShloMosaic.Lib.Pipeline.ValueKit

/-!
The kernel's result array over the extended reals: at every index it is the attention of its batch's and
head's queries, keys and values.
-/

@[expose] public section

set_option maxRecDepth 16384

noncomputable section

namespace Cert.KernelIdeal.Attn

open Cert.KernelIdeal Cert.KernelIdeal.Gen Idealize.ShloMosaic.TcCoe Idealize.SL.Sem
open Idealize.ShloMosaic hiding ix1 ix2 ix3 ix4
open Idealize.ShloMosaic.ValueIdx
open Cert.ReferenceIdeal.Attn (head256 head128)

/-- What the body leaves in the result's block. -/
theorem out_eq (c : Dev nD) (i : grid0.Coords) (arg3 : Memref sig .tc .vmem S1x1x4096x256 .bf16) (harg3 : arg3.IsWhole)
    (arg4 : Memref sig .tc .vmem S1x1x4096x256 .bf16) (harg4 : arg4.IsWhole)
    (arg5 : Memref sig .tc .vmem S1x1x4096x128 .bf16) (harg5 : arg5.IsWhole)
    (arg6 : Memref sig .tc .vmem S1x4096x128 .bf16) (harg6 : arg6.IsWhole)
    (q k : Vec Ideal S1x1x4096x256 .bf16) (v : Vec Ideal S1x1x4096x128 .bf16)
    (hq : ∀ j, ∃ x : ℝ, q j = x) (hk : ∀ j, ∃ x : ℝ, k j = x) (y : S1x4096x128.Idx) :
    out0_A_3 c i arg3 harg3 arg4 harg4 arg5 harg5 arg6 harg6 q k v y = attention q k v (y 1) (y 2) := by
  unfold out0_A_3
  rw [View.read_writes_eq_canon _ _ _ (cover0_A_3 c i arg3 harg3 arg4 harg4 arg5 harg5 arg6 harg6 q k v)]
  refine View.canon_apply_of_pieces (fun y : S1x4096x128.Idx => attention q k v (y 1) (y 2)) _ ?_ y
    (cover0_A_3 c i arg3 harg3 arg4 harg4 arg5 harg5 arg6 harg6 q k v y)
  have hp : ∀ (j : Fin 8) (x : (piece q k v j).1.shape.Idx),
      (piece q k v j).2 x = attention q k v ((piece q k v j).1.emb x 1) ((piece q k v j).1.emb x 2) := fun j x => by
    obtain ⟨r, e, rfl⟩ : ∃ (r : Fin 512) (e : Fin 128), x = ix3 (0 : Fin 1) r e :=
      ⟨x 1, x 2, (ValueIdx.eq_ix3 (n0 := 1) (n1 := 512) (n2 := 128) x).trans
        (congrArg (fun a => ix3 a (x 1) (x 2)) (Subsingleton.elim (α := Fin 1) _ _))⟩
    refine (quot_final q k v hq hk j r e).trans ?_
    refine congrArg₂ (attention q k v) (Fin.ext ?_) (Fin.ext ?_)
    · show 512 * (j : ℕ) + (r : ℕ) = 512 * (j : ℕ) + 1 * (r : ℕ)
      omega
    · show (e : ℕ) = 0 + 1 * (e : ℕ)
      omega
  rw [pieces_eq]
  intro p hm
  simp only [List.mem_cons, List.not_mem_nil, or_false] at hm
  rcases hm with rfl | rfl | rfl | rfl | rfl | rfl | rfl | rfl <;> exact hp _

variable (m : (ℓ : Loc nD τ sig) → Buf (Elt Ideal) ℓ)

/-- The result array: attention at every index. -/
def result (c : Dev nD) : Buf (Elt Ideal) ((c.tc : Thread nD τ).loc main_v0) := fun i : S4x4096x2048.Idx =>
  attention (head256 (m ((c.tc : Thread nD τ).loc main_arg0)) (i 0) ⟨(i 2 : ℕ) / 128, by have : (i 2 : ℕ) < 2048 := (i 2).isLt; omega⟩)
    (head256 (m ((c.tc : Thread nD τ).loc main_arg1)) (i 0) ⟨(i 2 : ℕ) / 128, by have : (i 2 : ℕ) < 2048 := (i 2).isLt; omega⟩)
    (head128 (m ((c.tc : Thread nD τ).loc main_arg2)) (i 0) ⟨(i 2 : ℕ) / 128, by have : (i 2 : ℕ) < 2048 := (i 2).isLt; omega⟩)
    (i 1) ⟨(i 2 : ℕ) % 128, Nat.mod_lt _ (by decide)⟩

/-- The result array at an index whose coordinates are given. -/
theorem result_of (c : Dev nD) (i : S4x4096x2048.Idx) (b : Fin 4) (h : Fin 16) (r : Fin 4096) (e : Fin 128)
    (h0 : (i 0 : ℕ) = b) (h1 : (i 1 : ℕ) = r) (h2 : (i 2 : ℕ) = 128 * h + e) :
    result m c i = attention (head256 (m ((c.tc : Thread nD τ).loc main_arg0)) b h)
      (head256 (m ((c.tc : Thread nD τ).loc main_arg1)) b h) (head128 (m ((c.tc : Thread nD τ).loc main_arg2)) b h) r e := by
  obtain rfl : i 0 = b := Fin.ext h0
  obtain rfl : i 1 = r := Fin.ext h1
  have hd : (⟨(i 2 : ℕ) / 128, by have : (i 2 : ℕ) < 2048 := (i 2).isLt; omega⟩ : Fin 16) = h := Fin.ext (by show (i 2 : ℕ) / 128 = _; omega)
  have hm : (⟨(i 2 : ℕ) % 128, Nat.mod_lt _ (by decide)⟩ : Fin 128) = e := Fin.ext (by show (i 2 : ℕ) % 128 = _; omega)
  unfold result
  rw [hd, hm]

theorem idx_q : ∀ t : Fin grid0.N, win0_0.index t = ![(grid0.coords t 0 : ℕ), (grid0.coords t 1 : ℕ), 0, 0] := by
  decide +kernel
theorem idx_k : ∀ t : Fin grid0.N, win0_1.index t = ![(grid0.coords t 0 : ℕ), (grid0.coords t 1 : ℕ), 0, 0] := by
  decide +kernel
theorem idx_v : ∀ t : Fin grid0.N, win0_2.index t = ![(grid0.coords t 0 : ℕ), (grid0.coords t 1 : ℕ), 0, 0] := by
  decide +kernel
theorem idx_o : ∀ t : Fin grid0.N, win0_3.index t = ![(grid0.coords t 0 : ℕ), 0, (grid0.coords t 1 : ℕ)] := by
  decide +kernel

theorem block_q (c : Dev nD) (t : Fin cfg0.N) :
    iblk m c 0 t = head256 (m ((c.tc : Thread nD τ).loc main_arg0)) (grid0.coords t 0) (grid0.coords t 1) := by
  funext y
  unfold head256
  blk_ext [iblk, V, idx_q t]

theorem block_k (c : Dev nD) (t : Fin cfg0.N) :
    iblk m c 1 t = head256 (m ((c.tc : Thread nD τ).loc main_arg1)) (grid0.coords t 0) (grid0.coords t 1) := by
  funext y
  unfold head256
  blk_ext [iblk, V, idx_k t]

theorem block_v (c : Dev nD) (t : Fin cfg0.N) :
    iblk m c 2 t = head128 (m ((c.tc : Thread nD τ).loc main_arg2)) (grid0.coords t 0) (grid0.coords t 1) := by
  funext y
  unfold head128
  blk_ext [iblk, V, idx_v t]

/-- The whole array after the last grid point, for finite queries and keys. -/
theorem array_eq (c : Dev nD)
    (hq : ∀ j, ∃ x : ℝ, (m ((c.tc : Thread nD τ).loc main_arg0) j : EReal) = (x : EReal))
    (hk : ∀ j, ∃ x : ℝ, (m ((c.tc : Thread nD τ).loc main_arg1) j : EReal) = (x : EReal)) :
    (dats m 0 c).arrAt 3 cfg0.N = result m c := by
  refine (dats m 0 c).arrAt_eq_of_covers 3 _ (by decide +kernel) fun t hf y => ?_
  blk_simp
  rw [after0_3]
  unfold outsAt0
  rw [block_q, block_k, block_v]
  show out0_A_3 _ _ _ _ _ _ _ _ _ _ _ _ _ _ = _
  rw [out_eq]
  · refine (result_of m c _ _ _ _ _ ?_ ?_ ?_).symm <;> blk_simp [idx_o t]
    exact congrArg (· + (y 2 : ℕ)) (Nat.mul_comm _ _)
  · exact fun j => hq _
  · exact fun j => hk _

/-- A queries' or keys' array whose absolute values are below infinity holds reals only. -/
theorem real_of_lt [Cert.Pre_finite.Facts] (x : FVec Ideal Cert.Pre_finite.S4x16x4096x256 .bf16)
    (h : cmpf .olt (Host.absf (extf .f32 x Cert.Pre_finite.Facts.bitsLt_bf16_f32))
      (broadcastInDim Cert.Pre_finite.S4x16x4096x256 ![] Cert.Pre_finite.Facts.bcast_S_S4x16x4096x256
        (constant Cert.Pre_finite.S_ .f32 0x7F800000#32)) = fun _ => 1#1) (j) : ∃ r : ℝ, x j = r := by
  have h₁ : Ideal.cmp .olt (FloatOps.hostAbsf (F := Ideal) (φ := .f32) (x j)) (Ideal.ofBits .f32 0x7F800000#32) = 1#1 :=
    congrFun h j
  have e : Ideal.ofBits .f32 0x7F800000#32 = ⊤ := by simp [Ideal.ofBits, Ideal.ieee]
  rw [e] at h₁
  have h₂ : max (x j : EReal) (-(x j : EReal)) < ⊤ := by
    by_contra h'
    have : Ideal.cmp .olt (max (x j : EReal) (-(x j : EReal))) ⊤ = 0#1 := by
      unfold Ideal.cmp
      simp only [decide_eq_false h']
      rfl
    exact absurd (this.symm.trans h₁) (by decide)
  have h₃ : (x j : EReal) ≠ ⊤ := ((le_max_left _ _).trans_lt h₂).ne
  have h₄ : (x j : EReal) ≠ ⊥ := fun h' => ((le_max_right (x j : EReal) _).trans_lt h₂).ne (by rw [h']; rfl)
  exact ⟨EReal.toReal (x j), (EReal.coe_toReal h₃ h₄).symm⟩

/-- The reference's result on the same three arrays is the same array. -/
theorem result_eq_reference (c : Dev nD) :
    result m c = Cert.ReferenceIdeal.Read.val_main_v25 (F := Ideal) (m ((c.tc : Thread nD τ).loc main_arg0))
      (m ((c.tc : Thread nD τ).loc main_arg1)) (m ((c.tc : Thread nD τ).loc main_arg2)) := by
  funext i
  have hi : (i 2 : ℕ) < 2048 := (i 2).isLt
  obtain ⟨b, r, h, e, hj⟩ : ∃ (b : Fin 4) (r : Fin 4096) (h : Fin 16) (e : Fin 128),
      i = ix3 b r (⟨128 * h + e, by omega⟩ : Fin 2048) :=
    ⟨i 0, i 1, ⟨(i 2 : ℕ) / 128, by omega⟩, ⟨(i 2 : ℕ) % 128, Nat.mod_lt _ (by decide)⟩,
      (ValueIdx.eq_ix3 (n0 := 4) (n1 := 4096) (n2 := 2048) i).trans
        (congrArg (ix3 (i 0) (i 1)) (Fin.ext (Nat.div_add_mod _ 128).symm))⟩
  rw [hj, Cert.ReferenceIdeal.Attn.result_apply]
  exact result_of m c _ b h r e rfl rfl rfl

end Cert.KernelIdeal.Attn
-- ==== Proof.Layer.Rows.lean ====
module

public import Idealize.ShloMosaic.Lib.Pipeline.ValueKit
public import Idealize.ShloMosaic.Lib.KernelVsHost
public import Idealize.ShloMosaic.PureOps.Ideal.Laws

/-!
The rows of the model's projections over the extended reals: a row normalised by its root mean square, a
row modulated and projected, and a gated row projected, normalised and added to the residual.
-/

@[expose] public section

noncomputable section

namespace Cert.Layer

open Idealize.ShloMosaic
open scoped BigOperators

/-- `x` times its logistic function. -/
def silu (x : EReal) : EReal := x * Ideal.div 1 (1 + Ideal.exp (-x))

/-- Column `j` of a row times a matrix. -/
def prod {K N : ℕ} (a : Fin K → EReal) (w : Fin K → Fin N → EReal) (j : Fin N) : EReal := ∑ k, a k * w k j

/-- Column `j` of a row of length 2048 divided by its root mean square. -/
def rms (y : Fin 2048 → EReal) (j : Fin 2048) : EReal :=
  y j * Ideal.rsqrt (Ideal.div (∑ l, y l * y l) (Ideal.ofBits .f32 0x45000000#32) + Ideal.ofBits .f32 0x358637BD#32)

/-- Column `j` of the residual row `h` plus the gate times the normalised projection of the row `a`. -/
def outRow {K : ℕ} (a : Fin K → EReal) (w : Fin K → Fin 2048 → EReal) (post gate h : Fin 2048 → EReal) (j : Fin 2048) : EReal :=
  h j + gate j * (rms (prod a w) j * post j)

/-- Column `j` of the projection of the normalised row `h`, scaled and shifted. -/
def projRow {N : ℕ} (h pre scale shift : Fin 2048 → EReal) (w : Fin 2048 → Fin N → EReal) (j : Fin N) : EReal :=
  prod (fun k => rms h k * pre k * (1 + scale k) + shift k) w j

/-- Entry `l` of the modulation table of one conditioning row. -/
def adaRow {N : ℕ} (c : Fin 2048 → EReal) (w : Fin 2048 → Fin N → EReal) (bias : Fin N → EReal) (l : Fin N) : EReal :=
  prod (fun k => silu (c k)) w l + bias l

/-- A row in two halves times a matrix is the halves times the matrix's halves, added. -/
theorem prod_halves {N : ℕ} (a : Fin 2048 → EReal) (w : Fin 2048 → Fin N → EReal) (j : Fin N) :
    prod a w j = prod (fun k : Fin 1024 => a ⟨k, by omega⟩) (fun k => w ⟨k, by omega⟩) j
      + prod (fun k : Fin 1024 => a ⟨1024 + k, by omega⟩) (fun k => w ⟨1024 + k, by omega⟩) j :=
  Fin.sum_univ_add (a := 1024) (b := 1024) fun k : Fin (1024 + 1024) => a k * w k j

/-- Nothing minus `x` is `-x`. -/
theorem zero_sub (x : EReal) : 0 - x = -x := by rw [sub_eq_add_neg, zero_add]

/-- A projected entry depends on its arguments' entries only. -/
theorem projRow_congr {N : ℕ} {h h' pre pre' scale scale' shift shift' : Fin 2048 → EReal} {w w' : Fin 2048 → Fin N → EReal} (j : Fin N)
    (hh : ∀ k, h k = h' k) (hp : ∀ k, pre k = pre' k) (hs : ∀ k, scale k = scale' k) (ht : ∀ k, shift k = shift' k) (hw : ∀ k l, w k l = w' k l) :
    projRow h pre scale shift w j = projRow h' pre' scale' shift' w' j := by
  rw [funext hh, funext hp, funext hs, funext ht, funext fun k => funext (hw k)]

/-- A result entry depends on its arguments' entries only. -/
theorem outRow_congr {y y' post post' gate gate' h h' : Fin 2048 → EReal} {w w' : Fin 2048 → Fin 2048 → EReal} (j : Fin 2048)
    (hy : ∀ k, y k = y' k) (hw : ∀ k l, w k l = w' k l) (hp : ∀ k, post k = post' k) (hg : ∀ k, gate k = gate' k) (hh : ∀ k, h k = h' k) :
    outRow y w post gate h j = outRow y' w' post' gate' h' j := by
  rw [funext hy, funext hp, funext hg, funext hh, funext fun k => funext (hw k)]

end Cert.Layer
-- ==== Proof.OutOdd.Value.lean ====
module

public import proofs.«01_k».proof.Proof.Layer.Rows
public import proofs.«01_k».proof.Proof.Gen.Kernel2Ideal.Value
public import proofs.«01_k».proof.Proof.Gen.Reference2Ideal.Read
public import proofs.«01_k».proof.Proof.Gen.Reference2Ideal.Run

/-!
The odd layer's output call over the extended reals: its result array is the reference's, index by index.
-/

@[expose] public section

set_option maxRecDepth 16384

noncomputable section

namespace Cert.Kernel2Ideal.OutOdd

open Cert.Kernel2Ideal Cert.Kernel2Ideal.Gen Idealize.ShloMosaic Idealize.ShloMosaic.TcCoe Idealize.SL.Sem
open Cert.Layer

/-- One entry of the block that the body stores, from the blocks it loads. -/
theorem payload_apply (o g : Vec Ideal S1x512x2048 .bf16) (w : Vec Ideal S1x2048x2048 .bf16) (post : Vec Ideal S1x1x2048 .f32) (h : Vec Ideal S1x512x2048 .f32) (gate : Vec Ideal S1x1x1x1x2048 .f32) (r : Fin 512) (j : Fin 2048) :
    k0_pay1 (k0_pay2 o g w post) (k0_pay3 h) gate (ix3 0 r j)
      = outRow (fun k => o (ix3 0 r k) * silu (g (ix3 0 r k))) (fun k l => w (ix3 0 k l)) (fun l => post (ix3 0 0 l))
          (fun l => gate (ix5 0 0 0 0 l)) (fun l => h (ix3 0 r l)) j := by
  unfold k0_pay1 k0_pay2 k0_pay3
  pointwise
  simp only [Layer.zero_sub]
  rfl

/-- One entry of the reference's result. -/
theorem reference_apply (o : (⟨Reference2Ideal.S4x4096x2048, .bf16⟩ : BufTy).Contents (Elt Ideal)) (p : (⟨Reference2Ideal.S4x4096x3200, .bf16⟩ : BufTy).Contents (Elt Ideal)) (ada : (⟨Reference2Ideal.S2x3x8x1x2048, .f32⟩ : BufTy).Contents (Elt Ideal))
 (post : (⟨Reference2Ideal.S2x2048, .f32⟩ : BufTy).Contents (Elt Ideal))  (w : (⟨Reference2Ideal.S2x2048x2048, .f32⟩ : BufTy).Contents (Elt Ideal))  (h : (⟨Reference2Ideal.S4x4096x2048, .f32⟩ : BufTy).Contents (Elt Ideal)) (b : Fin 4) (r : Fin 4096) (j : Fin 2048) :
    Reference2Ideal.Read.val_main_v27 (F := Ideal) o p ada post w h (ix3 b r j)
      = outRow (fun k => o (ix3 b r k) * silu (p (ix3 b r ⟨k, by omega⟩))) (fun k l => w (ix3 1 k l)) (fun l => post (ix2 1 l))
          (fun l => ada (ix5 1 2 ⟨b, by omega⟩ 0 l)) (fun l => h (ix3 b r l)) j := by
  rw [← Reference2Ideal.Read.val_main_v27_eq]
  pointwise
  rfl

/-! The windows' index maps at every grid point. -/

variable (m : (ℓ : Loc nD τ sig) → Buf (Elt Ideal) ℓ)

theorem idx_o : ∀ t : Fin grid0.N, win0_0.index t = ![(grid0.coords t 0 : ℕ), (grid0.coords t 1 : ℕ), 0] := by
  decide +kernel
theorem idx_p : ∀ t : Fin grid0.N, win0_1.index t = ![(grid0.coords t 0 : ℕ), (grid0.coords t 1 : ℕ), 0] := by
  decide +kernel
theorem idx_w : ∀ t : Fin grid0.N, win0_2.index t = ![1, 0, 0] := by
  decide +kernel
theorem idx_post : ∀ t : Fin grid0.N, win0_3.index t = ![1, 0, 0] := by
  decide +kernel
theorem idx_gate : ∀ t : Fin grid0.N, win0_4.index t = ![1, 2, (grid0.coords t 0 : ℕ), 0, 0] := by
  decide +kernel
theorem idx_h : ∀ t : Fin grid0.N, win0_5.index t = ![(grid0.coords t 0 : ℕ), (grid0.coords t 1 : ℕ), 0] := by
  decide +kernel
theorem idx_r : ∀ t : Fin grid0.N, win0_6.index t = ![(grid0.coords t 0 : ℕ), (grid0.coords t 1 : ℕ), 0] := by
  decide +kernel

/-- The result array after the last grid point is the reference's result. -/
theorem array_eq (c : Dev nD) :
    (dats m 0 c).arrAt 6 cfg0.N = Cert.Reference2Ideal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  unfold outsAt0
  frame_out
  obtain ⟨r, j, rfl⟩ : ∃ (r : Fin 512) (j : Fin 2048), y = ix3 (0 : Fin 1) r j :=
    ⟨y 1, y 2, funext fun a => by
      match a with
      | ⟨0, _⟩ => exact Subsingleton.elim (α := Fin 1) _ _
      | ⟨1, _⟩ => rfl
      | ⟨2, _⟩ => rfl⟩
  obtain ⟨b, R, hb, hR, he⟩ : ∃ (b : Fin 4) (R : Fin 4096), (b : ℕ) = grid0.coords t 0 ∧ (R : ℕ) = grid0.coords t 1 * 512 + r ∧
      ((View.whole main_v2).slice (win0_6.rect t)).emb (ix3 (0 : Fin 1) r j) = ix3 b R j := by
    have h1 : (grid0.coords t 1 : ℕ) < 8 := (grid0.coords t 1).isLt
    refine ⟨grid0.coords t 0, ⟨grid0.coords t 1 * 512 + r, by omega⟩, rfl, rfl, ?_⟩
    blk_ext [idx_r t]
  refine (payload_apply _ _ _ _ _ _ r j).trans ?_
  rw [he, reference_apply]
  congr 1 <;> funext k
  · congr 1
    · blk_ext [iblk, V, idx_o t]
    · refine congrArg silu ?_
      unfold X0_1 Pipeline.Window.fill
      rw [dif_pos (moved0_1 t _)]
      blk_ext [iblk, V, idx_p t]
  · funext l
    blk_ext [iblk, V, idx_w t]
  · unfold iblk V
    blk_simp [idx_post t]
    entry_read
    pointwise
    blk_ext [idx_post t]
  · blk_ext [iblk, V, idx_gate t]
  · blk_ext [iblk, V, idx_h t]

end Cert.Kernel2Ideal.OutOdd
-- ==== Proof.InEven.Run.lean ====
module

public import proofs.«01_k».proof.Proof.Layer.Rows
public import proofs.«01_k».proof.Proof.Gen.Kernel3Ideal.Frame
public import Idealize.ShloMosaic.Lib.Pipeline.Value

/-!
The run of the even layer's modulation and input projection, over the extended reals: what every buffer of a
core holds at its end, and so the result array as the second call leaves it.
-/

@[expose] public section

set_option maxRecDepth 16384

noncomputable section

namespace Cert.Kernel3Ideal.InEven

open Cert.Kernel3Ideal Cert.Kernel3Ideal.Gen Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

-- the launch theorem's implicit arguments are read off the conclusion, through definitions in their types
set_option backward.isDefEq.respectTransparency.types false in
/-- Every run of the program ends, and leaves each buffer of a core with the contents after its last call. -/
theorem run_final : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result array holds what the second call's write-backs leave, and the arguments are as they were. -/
theorem run_blocks : θ_run defs (onTc (τ := τ) (main (F := Ideal))) ⟨m, fun _ => 0, ρ⟩ fun r => ∀ c : Dev nD,
      r.2.mem ((c.tc : Thread nD τ).loc main_v7) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c _ (mem_uc main_v7 (by decide))).trans (W4_arr m ρ c 5),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_final m ρ)

end Cert.Kernel3Ideal.InEven
-- ==== Proof.Layer.Scatter.lean ====
module

public import Idealize.ShloMosaic.Lib.Routing.OpsOne

/-!
Writing the leading rows of a matrix: the host's padding of a few rows up to a whole register.
-/

@[expose] public section

namespace Cert.Layer

open Idealize.ShloMosaic Idealize.ShloMosaic.Routing Idealize.ShloMosaic.ValueIdx

/-- A block of rows written over the leading rows of a matrix is read back at those rows. -/
theorem scatter_rows {α : Type} {A B N : Nat} (hAB : A ≤ B) (wf : ScatterDims.WF (shape2 B N) (shape1 1) (shape2 A N) [0, 1] [] [0] 0)
    (x0 : (shape2 B N).Idx → α) (idx : IVec (shape1 1) 32) (upd : (shape2 A N).Idx → α)
    (hidx : (idx (ix1 0)).toInt = 0) (r : Fin A) (e : Fin N) :
    Host.scatter { updateWindowDims := [0, 1], insertedWindowDims := [], scatterDimsToOperandDims := [0], indexVectorDim := 0, wf := wf }
      (fun _ b => b) x0 idx upd (ix2 ⟨r, r.isLt.trans_le hAB⟩ e) = upd (ix2 r e) := by
  set d : ScatterDims (shape2 B N) (shape1 1) (shape2 A N) :=
    { updateWindowDims := [0, 1], insertedWindowDims := [], scatterDimsToOperandDims := [0], indexVectorDim := 0, wf := wf } with hd
  have hs0 : ∀ j, d.start j idx 0 = 0 := fun j => by
    unfold ScatterDims.start
    rw [dif_pos (show (0 : Fin 2) ∈ d.scatterDimsToOperandDims from List.mem_singleton.2 rfl)]
    rw [show d.siIdx j ⟨d.scatterDimsToOperandDims.idxOf 0, _⟩ = ix1 (0 : Fin 1) from funext fun b' => by
      match b' with
      | ⟨0, _⟩ => exact Subsingleton.elim (α := Fin 1) _ _]
    exact hidx
  have hs1 : ∀ j, d.start j idx 1 = 0 := fun j => by
    unfold ScatterDims.start
    rw [dif_neg fun h => absurd (List.mem_singleton.1 h) (by decide : (1 : Fin 2) ≠ 0)]
  have hw0 : ∀ j, d.window j 0 = (j 0 : ℕ) := fun j => rfl
  have hw1 : ∀ j, d.window j 1 = (j 1 : ℕ) := fun j => rfl
  have lands : ∀ j, d.resultIdx? j idx = some (ix2 ⟨r, r.isLt.trans_le hAB⟩ e) ↔ (j 0 : ℕ) = r ∧ (j 1 : ℕ) = e := fun j => by
    rw [resultIdx?_ix2, hs0, hs1, hw0, hw1]
    simp only [zero_add, Nat.cast_inj]
  refine scatter_set_hit d x0 idx upd _ _ (fun j hj => congrArg upd ?_) (ix2 r e) ((lands _).2 ⟨rfl, rfl⟩)
  obtain ⟨h0, h1⟩ := (lands j).1 hj
  funext a
  match a with
  | ⟨0, _⟩ => exact Fin.ext h0
  | ⟨1, _⟩ => exact Fin.ext h1

end Cert.Layer
-- ==== Proof.InEven.Table.lean ====
module

public import proofs.«01_k».proof.Proof.Layer.Rows
public import proofs.«01_k».proof.Proof.Layer.Scatter
public import proofs.«01_k».proof.Proof.Gen.Kernel3Ideal.Frame
public import Idealize.ShloMosaic.Lib.Pipeline.Value

/-!
The modulation table that the first call leaves: for every layer and conditioning row, the shift, the scale and the gate.
-/

@[expose] public section

set_option maxRecDepth 16384

noncomputable section

namespace Cert.Kernel3Ideal.InEven

open Cert.Kernel3Ideal Cert.Kernel3Ideal.Gen Idealize.ShloMosaic Idealize.ShloMosaic.TcCoe Idealize.SL.Sem
open Cert.Layer

/-- One entry of the block that the body stores, from the blocks it loads. -/
theorem table_payload_apply (cond : Vec Ideal S8x2048 .f32) (w : Vec Ideal S1x2048x1024 .f32) (bias : Vec Ideal S1x1x1024 .f32) (r : Fin 8) (l : Fin 1024) :
    k0_pay1 cond w bias (ix5 0 0 r 0 l)
      = adaRow (fun k => cond (ix2 r k)) (fun k l => w (ix3 0 k l)) (fun l => bias (ix3 0 0 l)) l := by
  unfold k0_pay1
  pointwise
  simp only [Layer.zero_sub]
  rfl

theorem idx_c : ∀ t : Fin grid0.N, win0_0.index t = ![0, 0] := by
  decide +kernel
theorem idx_aw : ∀ t : Fin grid0.N, win0_1.index t = ![(grid0.coords t 0 : ℕ), 0, (grid0.coords t 1 : ℕ)] := by
  decide +kernel
theorem idx_ab : ∀ t : Fin grid0.N, win0_2.index t = ![(grid0.coords t 0 : ℕ), 0, (grid0.coords t 1 : ℕ)] := by
  decide +kernel
theorem idx_t : ∀ t : Fin grid0.N, win0_3.index t = ![(grid0.coords t 0 : ℕ), (grid0.coords t 1 : ℕ) / 2, 0, 0, (grid0.coords t 1 : ℕ) % 2] := by
  decide +kernel

/-- The modulation table at layer `i`, part `s`, row `r`, column `l`, from the conditioning rows, the weights and the biases. -/
def tableAt (cond : (⟨S8x2048, .f32⟩ : BufTy).Contents (Elt Ideal)) (w : (⟨S2x2048x6144, .f32⟩ : BufTy).Contents (Elt Ideal)) (bias : (⟨S2x1x6144, .f32⟩ : BufTy).Contents (Elt Ideal))
    (i : Fin 2) (s : Fin 3) (r : Fin 8) (l : Fin 2048) : EReal :=
  adaRow (fun k => cond (ix2 r k)) (fun k l => w (ix3 i k l)) (fun l => bias (ix3 i 0 l)) ⟨s * 2048 + l, by omega⟩

variable (V : (c : Dev nD) → (b : Ref sig .tc) → Buf (Elt Ideal) ((c : Thread nD τ).loc b))

/-- The table after the first call's last grid point. -/
theorem table_eq (c : Dev nD) :
    (dat0 V c).arrAt 3 cfg0.N = fun x : S2x3x8x1x2048.Idx => tableAt (V c main_v2) (V c main_arg2) (V c main_v3) (x 0) (x 1) (x 2) (x 4) := by
  refine (dat0 V c).arrAt_eq_of_covers 3 _ (by decide +kernel) fun t hf y => ?_
  blk_simp
  rw [after0_3]
  unfold out0_3
  obtain ⟨r, l, rfl⟩ : ∃ (r : Fin 8) (l : Fin 1024), y = ix5 (0 : Fin 1) (0 : Fin 1) r (0 : Fin 1) l :=
    ⟨y 2, y 4, funext fun a => by
      match a with
      | ⟨0, _⟩ => exact Subsingleton.elim (α := Fin 1) _ _
      | ⟨1, _⟩ => exact Subsingleton.elim (α := Fin 1) _ _
      | ⟨2, _⟩ => rfl
      | ⟨3, _⟩ => exact Subsingleton.elim (α := Fin 1) _ _
      | ⟨4, _⟩ => rfl⟩
  have h1 : (grid0.coords t 1 : ℕ) < 6 := (grid0.coords t 1).isLt
  have he : ((View.whole main_v4).slice (win0_3.rect t)).emb (ix5 (0 : Fin 1) (0 : Fin 1) r (0 : Fin 1) l)
      = ix5 (grid0.coords t 0) ⟨grid0.coords t 1 / 2, by omega⟩ r 0 ⟨grid0.coords t 1 % 2 * 1024 + l, by omega⟩ := by
    blk_ext [idx_t t]
  rw [he]
  frame_out
  refine (table_payload_apply _ _ _ r l).trans ?_
  unfold tableAt adaRow
  congr 1
  · unfold prod
    refine Finset.sum_congr rfl fun k _ => ?_
    congr 1
    · refine congrArg silu ?_
      blk_ext [iblk0, idx_c t]
    · blk_ext [iblk0, idx_aw t]
  · blk_ext [iblk0, idx_ab t]

end Cert.Kernel3Ideal.InEven
-- ==== Proof.InEven.Entry.lean ====
module

public import proofs.«01_k».proof.Proof.InEven.Table

/-!
The modulation table as the second call finds it, in terms of the program's arguments.
-/

@[expose] public section

set_option maxRecDepth 16384

noncomputable section

namespace Cert.Kernel3Ideal.InEven

open Cert.Kernel3Ideal Cert.Kernel3Ideal.Gen Idealize.ShloMosaic Idealize.ShloMosaic.TcCoe Idealize.SL.Sem
open Cert.Layer

/-- A table entry, its conditioning row, weights and biases named. -/
theorem tableAt_of {cond : (⟨S8x2048, .f32⟩ : BufTy).Contents (Elt Ideal)} {w : (⟨S2x2048x6144, .f32⟩ : BufTy).Contents (Elt Ideal)}
    {bias : (⟨S2x1x6144, .f32⟩ : BufTy).Contents (Elt Ideal)} {i : Fin 2} {s : Fin 3} {r : Fin 8} {l : Fin 2048}
    {cond' : Fin 2048 → EReal} {w' : Fin 2048 → Fin 6144 → EReal} {bias' : Fin 6144 → EReal}
    (hc : ∀ k, cond (ix2 r k) = cond' k) (hw : ∀ k l, w (ix3 i k l) = w' k l) (hb : ∀ l, bias (ix3 i 0 l) = bias' l) :
    tableAt cond w bias i s r l = adaRow cond' w' bias' ⟨s * 2048 + l, by omega⟩ := by
  obtain rfl := funext hc
  obtain rfl := funext fun k => funext (hw k)
  obtain rfl := funext hb
  rfl

variable (m : (ℓ : Loc nD τ sig) → Buf (Elt Ideal) ℓ) (ρ : Dev nD → PrngReg)

/-- The padded conditioning rows at a row that is not padding. -/
theorem cond_apply (c : Dev nD) (b : Fin 4) (k : Fin 2048) :
    V1 m ρ c main_v2 (ix2 ⟨b, by omega⟩ k) = m ((c.tc : Thread nD τ).loc main_arg1) (ix2 b k) := by
  unfold V1 W1 W0
  entry_read
  exact scatter_rows (A := 4) (B := 8) (N := 2048) (by decide) _ _ _ _ (by decide) b k

/-- The biases as the first call finds them. -/
theorem bias_apply (c : Dev nD) (l : Fin 6144) :
    V1 m ρ c main_v3 (ix3 1 0 l) = m ((c.tc : Thread nD τ).loc main_arg3) (ix2 1 l) := by
  unfold V1 W1 W0
  entry_read
  pointwise

/-- The second call reads the table of the model's modulation: layer 1, part `s`, batch `b`, column `l`. -/
theorem entry_table (c : Dev nD) (s : Fin 3) (b : Fin 4) (l : Fin 2048) :
    V3 m ρ c main_v4 (ix5 1 s ⟨b, by omega⟩ 0 l)
      = adaRow (fun k => m ((c.tc : Thread nD τ).loc main_arg1) (ix2 b k)) (fun k l => m ((c.tc : Thread nD τ).loc main_arg2) (ix3 1 k l))
          (fun l => m ((c.tc : Thread nD τ).loc main_arg3) (ix2 1 l)) ⟨s * 2048 + l, by omega⟩ := by
  have h : V3 m ρ c main_v4 = (dat0 (V1 m ρ) c).arrAt 3 cfg0.N := (W3_of m ρ c main_v4 (by decide)).trans (W2_arr m ρ c 3)
  rw [h, table_eq]
  exact tableAt_of (fun k => cond_apply m ρ c b k) (fun k l => congrFun (W1_of m ρ c main_arg2 (by decide)) _) (fun l => bias_apply m ρ c l)

end Cert.Kernel3Ideal.InEven
-- ==== Proof.InEven.Block.lean ====
module

public import proofs.«01_k».proof.Proof.InEven.Table

/-!
The block of the projection that one grid point of the second call stores, over the extended reals.
-/

@[expose] public section

set_option maxRecDepth 16384

noncomputable section

namespace Cert.Kernel3Ideal.InEven

open Cert.Kernel3Ideal Cert.Kernel3Ideal.Gen Idealize.ShloMosaic Idealize.ShloMosaic.TcCoe Idealize.SL.Sem
open Cert.Layer

/-- The column of the packed weights that the projection's column `j` comes from: the low-rank columns go last. -/
def col (j : Fin 6272) : Fin 6272 :=
  if h : j.val < 4096 then j else if h' : j.val < 6144 then ⟨j.val + 128, by omega⟩ else ⟨j.val - 2048, by omega⟩

theorem col_low {j : Fin 6272} (h : j.val < 4096) : (col j).val = j := by
  unfold col
  rw [dif_pos h]

theorem col_mid {j : Fin 6272} (h : ¬ j.val < 4096) (h' : j.val < 6144) : (col j).val = j + 128 := by
  unfold col
  rw [dif_neg h, dif_pos h']

theorem col_high {j : Fin 6272} (h : ¬ j.val < 6144) : (col j).val = j - 2048 := by
  unfold col
  rw [dif_neg (by omega), dif_neg h]

/-- One entry of the normalised, modulated rows that the body multiplies. -/
theorem rows_apply (h : Vec Ideal S1x256x2048 .f32) (pre : Vec Ideal S1x1x2048 .f32) (scale shift : Vec Ideal S1x1x1x1x2048 .f32) (r : Fin 256) (k : Fin 2048) :
    k1_pay4 h pre scale shift (ix2 r k)
      = rms (fun l => h (ix3 0 r l)) k * pre (ix3 0 0 k) * (1 + scale (ix5 0 0 0 0 k)) + shift (ix5 0 0 0 0 k) := by
  unfold k1_pay4
  pointwise
  rfl

/-- One entry of a stored tile of 1024 columns: a row against a column of the loaded weights. -/
theorem wide_apply (z : FVec Ideal S256x2048 .bf16) (w : Vec Ideal S1x2048x1024 .bf16) (r : Fin 256) (j : Fin 1024) :
    k1_pay2 z w (ix3 0 r j) = prod (fun k => z (ix2 r k)) (fun k l => w (ix3 0 k l)) j := by
  unfold k1_pay2
  pointwise
  rfl

/-- One entry of the stored tile of 128 columns. -/
theorem narrow_apply (z : FVec Ideal S256x2048 .bf16) (w : Vec Ideal S1x2048x128 .bf16) (r : Fin 256) (j : Fin 128) :
    k1_pay3 z w (ix3 0 r j) = prod (fun k => z (ix2 r k)) (fun k l => w (ix3 0 k l)) j := by
  unfold k1_pay3
  pointwise
  rfl

section
variable (x0 : Vec Ideal S1x256x2048 .f32) (x1 : Vec Ideal S1x1x2048 .f32) (x2 x3 : Vec Ideal S1x1x1x1x2048 .f32) (x4 : Vec Ideal S1x2048x6272 .bf16)

/-- The projection of row `r` of a block, at a column of the packed weights. -/
abbrev projAt (r : Fin 256) (j : Fin 6272) : EReal :=
  projRow (fun l => x0 (ix3 0 r l)) (fun l => x1 (ix3 0 0 l)) (fun l => x2 (ix5 0 0 0 0 l)) (fun l => x3 (ix5 0 0 0 0 l)) (fun k l => x4 (ix3 0 k l)) j

/-- A load of weights from column `o` on, at an entry. -/
theorem load_of {o n : ℕ} (inb) (k : Fin 2048) (l : Fin n) (j : Fin 6272) (hj : (j : ℕ) = o + l) :
    View.ld x4 (Rect.unit ![0, 0, o] ![1, 2048, n] inb) (ix3 0 k l) = x4 (ix3 0 k j) :=
  View.ld_unit_apply_of _ _ _ inb _ _ fun a => by
    match a with
    | ⟨0, _⟩ => rfl
    | ⟨1, _⟩ => exact (Nat.zero_add _).symm
    | ⟨2, _⟩ => exact hj

/-- A tile of 1024 columns holds the projection at the columns its weights were loaded from. -/
theorem wide_of (o : ℕ) (w : Vec Ideal S1x2048x1024 .bf16) (hw : ∀ (k : Fin 2048) (l : Fin 1024) (j : Fin 6272), (j : ℕ) = o + l → w (ix3 0 k l) = x4 (ix3 0 k j))
    (x : S1x256x1024.Idx) (r : Fin 256) (j : Fin 6272) (hr : (r : ℕ) = x 1) (hj : (j : ℕ) = o + x 2) :
    k1_pay2 (k1_pay4 x0 x1 x2 x3) w x = projAt x0 x1 x2 x3 x4 r j := by
  obtain ⟨r', l, rfl⟩ : ∃ (r' : Fin 256) (l : Fin 1024), x = ix3 (0 : Fin 1) r' l :=
    ⟨x 1, x 2, funext fun a => by
      match a with
      | ⟨0, _⟩ => exact Subsingleton.elim (α := Fin 1) _ _
      | ⟨1, _⟩ => rfl
      | ⟨2, _⟩ => rfl⟩
  obtain rfl : r = r' := Fin.ext hr
  rw [wide_apply]
  exact Finset.sum_congr rfl fun k _ => congrArg₂ _ (rows_apply x0 x1 x2 x3 _ k) (hw k _ j hj)

/-- The tile of 128 columns holds the projection at the columns its weights were loaded from. -/
theorem narrow_of (o : ℕ) (w : Vec Ideal S1x2048x128 .bf16) (hw : ∀ (k : Fin 2048) (l : Fin 128) (j : Fin 6272), (j : ℕ) = o + l → w (ix3 0 k l) = x4 (ix3 0 k j))
    (x : S1x256x128.Idx) (r : Fin 256) (j : Fin 6272) (hr : (r : ℕ) = x 1) (hj : (j : ℕ) = o + x 2) :
    k1_pay3 (k1_pay4 x0 x1 x2 x3) w x = projAt x0 x1 x2 x3 x4 r j := by
  obtain ⟨r', l, rfl⟩ : ∃ (r' : Fin 256) (l : Fin 128), x = ix3 (0 : Fin 1) r' l :=
    ⟨x 1, x 2, funext fun a => by
      match a with
      | ⟨0, _⟩ => exact Subsingleton.elim (α := Fin 1) _ _
      | ⟨1, _⟩ => rfl
      | ⟨2, _⟩ => rfl⟩
  obtain rfl : r = r' := Fin.ext hr
  rw [narrow_apply]
  exact Finset.sum_congr rfl fun k _ => congrArg₂ _ (rows_apply x0 x1 x2 x3 _ k) (hw k _ j hj)

end

/-- The block that the body stores, tile by tile, is the projection of the block's rows with the low-rank columns last. -/
theorem block_apply (c : Dev nD) (i : grid1.Coords) (arg2 : Memref sig .tc .vmem S1x256x2048 .f32) (harg2 : arg2.IsWhole) (arg3 : Memref sig .tc .vmem S1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S1x2048x6272 .bf16) (harg6 : arg6.IsWhole) (arg7 : Memref sig .tc .vmem S1x256x6272 .bf16) (harg7 : arg7.IsWhole)
    (x0 : Vec Ideal S1x256x2048 .f32) (x1 : Vec Ideal S1x1x2048 .f32) (x2 : Vec Ideal S1x1x1x1x2048 .f32) (x3 : Vec Ideal S1x1x1x1x2048 .f32) (x4 : Vec Ideal S1x2048x6272 .bf16) (y : S1x256x6272.Idx) :
    out1_A_5 c i arg2 harg2 arg3 harg3 arg4 harg4 arg5 harg5 arg6 harg6 arg7 harg7 x0 x1 x2 x3 x4 y
      = projAt x0 x1 x2 x3 x4 (y 1) (col (y 2)) := by
  have hy : (y 2).val < 6272 := (y 2).isLt
  frame_out
  canon_tiles x h using View.cover_of_tiledBy _ ![1, 256, 128] (by sl_kernel_rfl) y
  · exact narrow_of x0 x1 x2 x3 x4 4096 _ (fun k l j hj => load_of x4 _ k l j hj) x _ _ h1 ((col_high (j := y 2) (by omega)).trans (by omega))
  · exact wide_of x0 x1 x2 x3 x4 5248 _ (fun k l j hj => load_of x4 _ k l j hj) x _ _ h1 ((col_mid (j := y 2) (by omega) (by omega)).trans (by omega))
  · exact wide_of x0 x1 x2 x3 x4 4224 _ (fun k l j hj => load_of x4 _ k l j hj) x _ _ h1 ((col_mid (j := y 2) (by omega) (by omega)).trans (by omega))
  · exact wide_of x0 x1 x2 x3 x4 3072 _ (fun k l j hj => load_of x4 _ k l j hj) x _ _ h1 ((col_low (j := y 2) (by omega)).trans (by omega))
  · exact wide_of x0 x1 x2 x3 x4 2048 _ (fun k l j hj => load_of x4 _ k l j hj) x _ _ h1 ((col_low (j := y 2) (by omega)).trans (by omega))
  · exact wide_of x0 x1 x2 x3 x4 1024 _ (fun k l j hj => load_of x4 _ k l j hj) x _ _ h1 ((col_low (j := y 2) (by omega)).trans (by omega))
  · exact wide_of x0 x1 x2 x3 x4 0 _ (fun k l j hj => load_of x4 _ k l j hj) x _ _ h1 ((col_low (j := y 2) (by omega)).trans (by omega))

end Cert.Kernel3Ideal.InEven
-- ==== Proof.InEven.Claim.lean ====
module

public import proofs.«01_k».proof.Proof.InEven.Run
public import proofs.«01_k».proof.Proof.InEven.Entry
public import proofs.«01_k».proof.Proof.InEven.Block
public import proofs.«01_k».proof.Proof.Gen.Reference3Ideal.Read

/-!
The even layer's modulation and input projection over the extended reals: its result array is the reference's, index by index.
-/

@[expose] public section

set_option maxRecDepth 16384

noncomputable section

namespace Cert.Kernel3Ideal.InEven

open Cert.Kernel3Ideal Cert.Kernel3Ideal.Gen Idealize.ShloMosaic Idealize.ShloMosaic.TcCoe Idealize.SL.Sem
open Cert.Layer

open Cert.Reference3Ideal.Read in
/-- One entry of the reference's product, before its columns are put in order. -/
theorem product_apply (h : (⟨Reference3Ideal.S4x4096x2048, .f32⟩ : BufTy).Contents (Elt Ideal)) (cnd : (⟨Reference3Ideal.S4x2048, .f32⟩ : BufTy).Contents (Elt Ideal)) (aw : (⟨Reference3Ideal.S2x2048x6144, .f32⟩ : BufTy).Contents (Elt Ideal)) (ab : (⟨Reference3Ideal.S2x6144, .f32⟩ : BufTy).Contents (Elt Ideal))
    (pre : (⟨Reference3Ideal.S2x2048, .f32⟩ : BufTy).Contents (Elt Ideal)) (w : (⟨Reference3Ideal.S2x2048x6272, .f32⟩ : BufTy).Contents (Elt Ideal)) (b : Fin 4) (r : Fin 4096) (j : Fin 6272) :
    val_main_v36 (F := Ideal) h cnd aw ab pre w (ix3 b r j)
      = projRow (fun l => h (ix3 b r l)) (fun l => pre (ix2 1 l))
          (fun l => adaRow (fun k => cnd (ix2 b k)) (fun k l => aw (ix3 1 k l)) (fun l => ab (ix2 1 l)) ⟨1 * 2048 + l, by omega⟩)
          (fun l => adaRow (fun k => cnd (ix2 b k)) (fun k l => aw (ix3 1 k l)) (fun l => ab (ix2 1 l)) ⟨0 * 2048 + l, by omega⟩)
          (fun k l => w (ix3 1 k l)) j := by
  simp only [val_main_v36, val_main_v35, val_main_v34, val_main_v33, val_main_v32, val_main_v31, val_main_v30, val_main_v29, val_main_v28, val_main_cst_2, val_main_v27, val_main_v26, val_main_v25, val_main_v24, val_main_v23, val_main_v22, val_main_v21, val_main_v20, val_main_cst_1, val_main_v19, val_main_v18, val_main_cst_0, val_main_v17, val_main_v16, val_main_cst, val_main_v15, val_main_v14, val_main_v13, val_main_v12, val_main_v11, val_main_v10, val_main_v9, val_main_v8, val_main_v7, val_main_v6, val_main_v5, val_main_v4, val_main_call0_v5, val_main_call0_v4, val_main_call0_cst_0, val_main_call0_v3, val_main_call0_v2, val_main_call0_cst, val_main_call0_v1, val_main_call0_v0, val_main_v3, val_main_v2, val_main_v1, val_main_v0]
  pointwise
  rfl

open Cert.Reference3Ideal.Read in
/-- One entry of the reference's result. -/
theorem reference_apply (h : (⟨Reference3Ideal.S4x4096x2048, .f32⟩ : BufTy).Contents (Elt Ideal)) (cnd : (⟨Reference3Ideal.S4x2048, .f32⟩ : BufTy).Contents (Elt Ideal)) (aw : (⟨Reference3Ideal.S2x2048x6144, .f32⟩ : BufTy).Contents (Elt Ideal)) (ab : (⟨Reference3Ideal.S2x6144, .f32⟩ : BufTy).Contents (Elt Ideal))
    (pre : (⟨Reference3Ideal.S2x2048, .f32⟩ : BufTy).Contents (Elt Ideal)) (w : (⟨Reference3Ideal.S2x2048x6272, .f32⟩ : BufTy).Contents (Elt Ideal)) (b : Fin 4) (r : Fin 4096) (j : Fin 6272) :
    val_main_v41 (F := Ideal) h cnd aw ab pre w (ix3 b r j)
      = projRow (fun l => h (ix3 b r l)) (fun l => pre (ix2 1 l))
          (fun l => adaRow (fun k => cnd (ix2 b k)) (fun k l => aw (ix3 1 k l)) (fun l => ab (ix2 1 l)) ⟨1 * 2048 + l, by omega⟩)
          (fun l => adaRow (fun k => cnd (ix2 b k)) (fun k l => aw (ix3 1 k l)) (fun l => ab (ix2 1 l)) ⟨0 * 2048 + l, by omega⟩)
          (fun k l => w (ix3 1 k l)) (col j) := by
  rw [← product_apply]
  unfold val_main_v41 val_main_v40 val_main_v39 val_main_v38 val_main_v37
  generalize val_main_v36 (F := Ideal) h cnd aw ab pre w = y
  unfold col
  pointwise
  by_cases h1 : j.val < 4096
  · simp only [dif_pos h1]
  · by_cases h2 : j.val < 6144
    · simp only [dif_neg h1, dif_pos h2, dif_pos (show j.val - 4096 < 2048 by omega)]
      exact congrArg (fun l => y (ix3 b r l)) (Fin.ext (show 4224 + (j.val - 4096) = j.val + 128 by omega))
    · simp only [dif_neg h1, dif_neg h2, dif_neg (show ¬ j.val - 4096 < 2048 by omega)]
      exact congrArg (fun l => y (ix3 b r l)) (Fin.ext (show 4096 + (j.val - 4096 - 2048) = j.val - 2048 by omega))

/-! The windows' index maps at every grid point. -/

theorem idx1_h : ∀ t : Fin grid1.N, win1_0.index t = ![(grid1.coords t 0 : ℕ), (grid1.coords t 1 : ℕ), 0] := by
  decide +kernel
theorem idx1_pre : ∀ t : Fin grid1.N, win1_1.index t = ![1, 0, 0] := by
  decide +kernel
theorem idx1_scale : ∀ t : Fin grid1.N, win1_2.index t = ![1, 1, (grid1.coords t 0 : ℕ), 0, 0] := by
  decide +kernel
theorem idx1_shift : ∀ t : Fin grid1.N, win1_3.index t = ![1, 0, (grid1.coords t 0 : ℕ), 0, 0] := by
  decide +kernel
theorem idx1_w : ∀ t : Fin grid1.N, win1_4.index t = ![1, 0, 0] := by
  decide +kernel
theorem idx1_r : ∀ t : Fin grid1.N, win1_5.index t = ![(grid1.coords t 0 : ℕ), (grid1.coords t 1 : ℕ), 0] := by
  decide +kernel

variable (m : (ℓ : Loc nD τ sig) → Buf (Elt Ideal) ℓ) (ρ : Dev nD → PrngReg)

/-- The rows as the second call finds them. -/
theorem h_apply (c : Dev nD) : V3 m ρ c main_arg0 = m ((c.tc : Thread nD τ).loc main_arg0) :=
  W3_args m ρ c main_arg0 (by decide)

/-- The norm's weights as the second call finds them. -/
theorem pre_apply (c : Dev nD) (l : Fin 2048) : V3 m ρ c main_v6 (ix3 1 0 l) = m ((c.tc : Thread nD τ).loc main_arg4) (ix2 1 l) := by
  unfold V3 W3
  entry_read
  pointwise
  exact congrFun (W2_args m ρ c main_arg4 (by decide)) _

/-- The projection's weights as the second call finds them. -/
theorem w_apply (c : Dev nD) (k : Fin 2048) (l : Fin 6272) : V3 m ρ c main_v5 (ix3 1 k l) = m ((c.tc : Thread nD τ).loc main_arg5) (ix3 1 k l) := by
  unfold V3 W3
  entry_read
  pointwise
  exact congrFun (W2_args m ρ c main_arg5 (by decide)) _

/-- The result array after the last grid point of the second call is the reference's result. -/
theorem array_eq (c : Dev nD) :
    (dat1 (V3 m ρ) c).arrAt 5 cfg1.N = Cert.Reference3Ideal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dat1 (V3 m ρ) c).arrAt_eq_of_covers 5 _ (by decide +kernel) fun t hf y => ?_
  blk_simp
  rw [after1_5]
  unfold outsAt1
  obtain ⟨r, j, rfl⟩ : ∃ (r : Fin 256) (j : Fin 6272), y = ix3 (0 : Fin 1) r j :=
    ⟨y 1, y 2, funext fun a => by
      match a with
      | ⟨0, _⟩ => exact Subsingleton.elim (α := Fin 1) _ _
      | ⟨1, _⟩ => rfl
      | ⟨2, _⟩ => rfl⟩
  obtain ⟨b, R, hb, hR, he⟩ : ∃ (b : Fin 4) (R : Fin 4096), (b : ℕ) = grid1.coords t 0 ∧ (R : ℕ) = grid1.coords t 1 * 256 + r ∧
      ((View.whole main_v7).slice (win1_5.rect t)).emb (ix3 (0 : Fin 1) r j) = ix3 b R j := by
    have h1 : (grid1.coords t 1 : ℕ) < 16 := (grid1.coords t 1).isLt
    refine ⟨grid1.coords t 0, ⟨grid1.coords t 1 * 256 + r, by omega⟩, rfl, rfl, ?_⟩
    blk_ext [idx1_r t]
  refine (block_apply _ _ _ _ _ _ _ _ _ _ _ _ _ _ _ _ _ _ _ _).trans ?_
  refine Eq.trans ?_ (congrArg _ he).symm
  rw [reference_apply]
  refine projRow_congr _ (fun k => ?_) (fun k => ?_) (fun k => ?_) (fun k => ?_) (fun k l => ?_)
  · refine Eq.trans ?_ (congrFun (h_apply m ρ c) _)
    blk_ext [iblk1, idx1_h t]
  · refine Eq.trans ?_ (pre_apply m ρ c k)
    blk_ext [iblk1, idx1_pre t]
  · refine Eq.trans ?_ (entry_table m ρ c 1 b k)
    blk_ext [iblk1, idx1_scale t]
  · refine Eq.trans ?_ (entry_table m ρ c 0 b k)
    blk_ext [iblk1, idx1_shift t]
  · refine Eq.trans ?_ (w_apply m ρ c k l)
    blk_ext [iblk1, idx1_w t]

end Cert.Kernel3Ideal.InEven
-- ==== Proof.InOdd.Run.lean ====
module

public import proofs.«01_k».proof.Proof.Layer.Rows
public import proofs.«01_k».proof.Proof.Gen.Kernel4Ideal.Frame
public import Idealize.ShloMosaic.Lib.Pipeline.Value

/-!
The run of the odd layer's modulation and input projection, over the extended reals: what every buffer of a
core holds at its end, and so the result array as the second call leaves it.
-/

@[expose] public section

set_option maxRecDepth 16384

noncomputable section

namespace Cert.Kernel4Ideal.InOdd

open Cert.Kernel4Ideal Cert.Kernel4Ideal.Gen Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

-- the launch theorem's implicit arguments are read off the conclusion, through definitions in their types
set_option backward.isDefEq.respectTransparency.types false in
/-- Every run of the program ends, and leaves each buffer of a core with the contents after its last call. -/
theorem run_final : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result array holds what the second call's write-backs leave, and the arguments are as they were. -/
theorem run_blocks : θ_run defs (onTc (τ := τ) (main (F := Ideal))) ⟨m, fun _ => 0, ρ⟩ fun r => ∀ c : Dev nD,
      r.2.mem ((c.tc : Thread nD τ).loc main_v11) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c _ (mem_uc main_v11 (by decide))).trans (W4_arr m ρ c 5),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_final m ρ)

end Cert.Kernel4Ideal.InOdd
-- ==== Proof.InOdd.Table.lean ====
module

public import proofs.«01_k».proof.Proof.Layer.Rows
public import proofs.«01_k».proof.Proof.Layer.Scatter
public import proofs.«01_k».proof.Proof.Gen.Kernel4Ideal.Frame
public import Idealize.ShloMosaic.Lib.Pipeline.Value

/-!
The modulation table that the first call leaves: for every layer and conditioning row, the shift, the scale and the gate.
-/

@[expose] public section

set_option maxRecDepth 16384

noncomputable section

namespace Cert.Kernel4Ideal.InOdd

open Cert.Kernel4Ideal Cert.Kernel4Ideal.Gen Idealize.ShloMosaic Idealize.ShloMosaic.TcCoe Idealize.SL.Sem
open Cert.Layer

/-- One entry of the block that the body stores, from the blocks it loads. -/
theorem table_payload_apply (cond : Vec Ideal S8x2048 .f32) (w : Vec Ideal S1x2048x1024 .f32) (bias : Vec Ideal S1x1x1024 .f32) (r : Fin 8) (l : Fin 1024) :
    k0_pay1 cond w bias (ix5 0 0 r 0 l)
      = adaRow (fun k => cond (ix2 r k)) (fun k l => w (ix3 0 k l)) (fun l => bias (ix3 0 0 l)) l := by
  unfold k0_pay1
  pointwise
  simp only [Layer.zero_sub]
  rfl

theorem idx_c : ∀ t : Fin grid0.N, win0_0.index t = ![0, 0] := by
  decide +kernel
theorem idx_aw : ∀ t : Fin grid0.N, win0_1.index t = ![(grid0.coords t 0 : ℕ), 0, (grid0.coords t 1 : ℕ)] := by
  decide +kernel
theorem idx_ab : ∀ t : Fin grid0.N, win0_2.index t = ![(grid0.coords t 0 : ℕ), 0, (grid0.coords t 1 : ℕ)] := by
  decide +kernel
theorem idx_t : ∀ t : Fin grid0.N, win0_3.index t = ![(grid0.coords t 0 : ℕ), (grid0.coords t 1 : ℕ) / 2, 0, 0, (grid0.coords t 1 : ℕ) % 2] := by
  decide +kernel

/-- The modulation table at layer `i`, part `s`, row `r`, column `l`, from the conditioning rows, the weights and the biases. -/
def tableAt (cond : (⟨S8x2048, .f32⟩ : BufTy).Contents (Elt Ideal)) (w : (⟨S2x2048x6144, .f32⟩ : BufTy).Contents (Elt Ideal)) (bias : (⟨S2x1x6144, .f32⟩ : BufTy).Contents (Elt Ideal))
    (i : Fin 2) (s : Fin 3) (r : Fin 8) (l : Fin 2048) : EReal :=
  adaRow (fun k => cond (ix2 r k)) (fun k l => w (ix3 i k l)) (fun l => bias (ix3 i 0 l)) ⟨s * 2048 + l, by omega⟩

variable (V : (c : Dev nD) → (b : Ref sig .tc) → Buf (Elt Ideal) ((c : Thread nD τ).loc b))

/-- The table after the first call's last grid point. -/
theorem table_eq (c : Dev nD) :
    (dat0 V c).arrAt 3 cfg0.N = fun x : S2x3x8x1x2048.Idx => tableAt (V c main_v2) (V c main_arg2) (V c main_v3) (x 0) (x 1) (x 2) (x 4) := by
  refine (dat0 V c).arrAt_eq_of_covers 3 _ (by decide +kernel) fun t hf y => ?_
  blk_simp
  rw [after0_3]
  unfold out0_3
  obtain ⟨r, l, rfl⟩ : ∃ (r : Fin 8) (l : Fin 1024), y = ix5 (0 : Fin 1) (0 : Fin 1) r (0 : Fin 1) l :=
    ⟨y 2, y 4, funext fun a => by
      match a with
      | ⟨0, _⟩ => exact Subsingleton.elim (α := Fin 1) _ _
      | ⟨1, _⟩ => exact Subsingleton.elim (α := Fin 1) _ _
      | ⟨2, _⟩ => rfl
      | ⟨3, _⟩ => exact Subsingleton.elim (α := Fin 1) _ _
      | ⟨4, _⟩ => rfl⟩
  have h1 : (grid0.coords t 1 : ℕ) < 6 := (grid0.coords t 1).isLt
  have he : ((View.whole main_v4).slice (win0_3.rect t)).emb (ix5 (0 : Fin 1) (0 : Fin 1) r (0 : Fin 1) l)
      = ix5 (grid0.coords t 0) ⟨grid0.coords t 1 / 2, by omega⟩ r 0 ⟨grid0.coords t 1 % 2 * 1024 + l, by omega⟩ := by
    blk_ext [idx_t t]
  rw [he]
  frame_out
  refine (table_payload_apply _ _ _ r l).trans ?_
  unfold tableAt adaRow
  congr 1
  · unfold prod
    refine Finset.sum_congr rfl fun k _ => ?_
    congr 1
    · refine congrArg silu ?_
      blk_ext [iblk0, idx_c t]
    · blk_ext [iblk0, idx_aw t]
  · blk_ext [iblk0, idx_ab t]

end Cert.Kernel4Ideal.InOdd
-- ==== Proof.InOdd.Entry.lean ====
module

public import proofs.«01_k».proof.Proof.InOdd.Table

/-!
The modulation table as the second call finds it, in terms of the program's arguments.
-/

@[expose] public section

set_option maxRecDepth 16384

noncomputable section

namespace Cert.Kernel4Ideal.InOdd

open Cert.Kernel4Ideal Cert.Kernel4Ideal.Gen Idealize.ShloMosaic Idealize.ShloMosaic.TcCoe Idealize.SL.Sem
open Cert.Layer

/-- A table entry, its conditioning row, weights and biases named. -/
theorem tableAt_of {cond : (⟨S8x2048, .f32⟩ : BufTy).Contents (Elt Ideal)} {w : (⟨S2x2048x6144, .f32⟩ : BufTy).Contents (Elt Ideal)}
    {bias : (⟨S2x1x6144, .f32⟩ : BufTy).Contents (Elt Ideal)} {i : Fin 2} {s : Fin 3} {r : Fin 8} {l : Fin 2048}
    {cond' : Fin 2048 → EReal} {w' : Fin 2048 → Fin 6144 → EReal} {bias' : Fin 6144 → EReal}
    (hc : ∀ k, cond (ix2 r k) = cond' k) (hw : ∀ k l, w (ix3 i k l) = w' k l) (hb : ∀ l, bias (ix3 i 0 l) = bias' l) :
    tableAt cond w bias i s r l = adaRow cond' w' bias' ⟨s * 2048 + l, by omega⟩ := by
  obtain rfl := funext hc
  obtain rfl := funext fun k => funext (hw k)
  obtain rfl := funext hb
  rfl

variable (m : (ℓ : Loc nD τ sig) → Buf (Elt Ideal) ℓ) (ρ : Dev nD → PrngReg)

/-- The padded conditioning rows at a row that is not padding. -/
theorem cond_apply (c : Dev nD) (b : Fin 4) (k : Fin 2048) :
    V1 m ρ c main_v2 (ix2 ⟨b, by omega⟩ k) = m ((c.tc : Thread nD τ).loc main_arg1) (ix2 b k) := by
  unfold V1 W1 W0
  entry_read
  exact scatter_rows (A := 4) (B := 8) (N := 2048) (by decide) _ _ _ _ (by decide) b k

/-- The biases as the first call finds them. -/
theorem bias_apply (c : Dev nD) (l : Fin 6144) :
    V1 m ρ c main_v3 (ix3 1 0 l) = m ((c.tc : Thread nD τ).loc main_arg3) (ix2 1 l) := by
  unfold V1 W1 W0
  entry_read
  pointwise

/-- The second call reads the table of the model's modulation: layer 1, part `s`, batch `b`, column `l`. -/
theorem entry_table (c : Dev nD) (s : Fin 3) (b : Fin 4) (l : Fin 2048) :
    V3 m ρ c main_v4 (ix5 1 s ⟨b, by omega⟩ 0 l)
      = adaRow (fun k => m ((c.tc : Thread nD τ).loc main_arg1) (ix2 b k)) (fun k l => m ((c.tc : Thread nD τ).loc main_arg2) (ix3 1 k l))
          (fun l => m ((c.tc : Thread nD τ).loc main_arg3) (ix2 1 l)) ⟨s * 2048 + l, by omega⟩ := by
  have h : V3 m ρ c main_v4 = (dat0 (V1 m ρ) c).arrAt 3 cfg0.N := (W3_of m ρ c main_v4 (by decide)).trans (W2_arr m ρ c 3)
  rw [h, table_eq]
  exact tableAt_of (fun k => cond_apply m ρ c b k) (fun k l => congrFun (W1_of m ρ c main_arg2 (by decide)) _) (fun l => bias_apply m ρ c l)

end Cert.Kernel4Ideal.InOdd
-- ==== Proof.InOdd.Block.lean ====
module

public import proofs.«01_k».proof.Proof.InOdd.Table

/-!
The block of the projection that one grid point of the second call stores, over the extended reals.
-/

@[expose] public section

set_option maxRecDepth 16384

noncomputable section

namespace Cert.Kernel4Ideal.InOdd

open Cert.Kernel4Ideal Cert.Kernel4Ideal.Gen Idealize.ShloMosaic Idealize.ShloMosaic.TcCoe Idealize.SL.Sem
open Cert.Layer

/-- One entry of the normalised, modulated rows that the body multiplies. -/
theorem rows_apply (h : Vec Ideal S1x512x2048 .f32) (pre : Vec Ideal S1x1x2048 .f32) (scale shift : Vec Ideal S1x1x1x1x2048 .f32) (r : Fin 512) (k : Fin 2048) :
    k1_pay5 h pre scale shift (ix2 r k)
      = rms (fun l => h (ix3 0 r l)) k * pre (ix3 0 0 k) * (1 + scale (ix5 0 0 0 0 k)) + shift (ix5 0 0 0 0 k) := by
  unfold k1_pay5
  pointwise
  rfl

/-- One entry of a stored tile of 1024 columns: a row against a column of the loaded weights. -/
theorem wide_apply (z : FVec Ideal S512x2048 .bf16) (w : Vec Ideal S1x2048x1024 .bf16) (r : Fin 512) (j : Fin 1024) :
    k1_pay2 z w (ix3 0 r j) = prod (fun k => z (ix2 r k)) (fun k l => w (ix3 0 k l)) j := by
  unfold k1_pay2
  pointwise
  rfl

/-- One entry of the stored tile of 128 columns. -/
theorem narrow_apply (z : FVec Ideal S512x2048 .bf16) (w : Vec Ideal S1x2048x128 .bf16) (r : Fin 512) (j : Fin 128) :
    k1_pay4 z w (ix3 0 r j) = prod (fun k => z (ix2 r k)) (fun k l => w (ix3 0 k l)) j := by
  unfold k1_pay4
  pointwise
  rfl

section
variable (x0 : Vec Ideal S1x512x2048 .f32) (x1 : Vec Ideal S1x1x2048 .f32) (x2 x3 : Vec Ideal S1x1x1x1x2048 .f32) (x4 : Vec Ideal S1x2048x3200 .bf16)

/-- The projection of row `r` of a block, at a column of the packed weights. -/
abbrev projAt (r : Fin 512) (j : Fin 3200) : EReal :=
  projRow (fun l => x0 (ix3 0 r l)) (fun l => x1 (ix3 0 0 l)) (fun l => x2 (ix5 0 0 0 0 l)) (fun l => x3 (ix5 0 0 0 0 l)) (fun k l => x4 (ix3 0 k l)) j

/-- A load of weights from column `o` on, at an entry. -/
theorem load_of {o n : ℕ} (inb) (k : Fin 2048) (l : Fin n) (j : Fin 3200) (hj : (j : ℕ) = o + l) :
    View.ld x4 (Rect.unit ![0, 0, o] ![1, 2048, n] inb) (ix3 0 k l) = x4 (ix3 0 k j) :=
  View.ld_unit_apply_of _ _ _ inb _ _ fun a => by
    match a with
    | ⟨0, _⟩ => rfl
    | ⟨1, _⟩ => exact (Nat.zero_add _).symm
    | ⟨2, _⟩ => exact hj

/-- A tile of 1024 columns holds the projection at the columns its weights were loaded from. -/
theorem wide_of (o : ℕ) (w : Vec Ideal S1x2048x1024 .bf16) (hw : ∀ (k : Fin 2048) (l : Fin 1024) (j : Fin 3200), (j : ℕ) = o + l → w (ix3 0 k l) = x4 (ix3 0 k j))
    (x : S1x512x1024.Idx) (r : Fin 512) (j : Fin 3200) (hr : (r : ℕ) = x 1) (hj : (j : ℕ) = o + x 2) :
    k1_pay2 (k1_pay5 x0 x1 x2 x3) w x = projAt x0 x1 x2 x3 x4 r j := by
  obtain ⟨r', l, rfl⟩ : ∃ (r' : Fin 512) (l : Fin 1024), x = ix3 (0 : Fin 1) r' l :=
    ⟨x 1, x 2, funext fun a => by
      match a with
      | ⟨0, _⟩ => exact Subsingleton.elim (α := Fin 1) _ _
      | ⟨1, _⟩ => rfl
      | ⟨2, _⟩ => rfl⟩
  obtain rfl : r = r' := Fin.ext hr
  rw [wide_apply]
  exact Finset.sum_congr rfl fun k _ => congrArg₂ _ (rows_apply x0 x1 x2 x3 _ k) (hw k _ j hj)

/-- The tile of 128 columns holds the projection at the columns its weights were loaded from. -/
theorem narrow_of (o : ℕ) (w : Vec Ideal S1x2048x128 .bf16) (hw : ∀ (k : Fin 2048) (l : Fin 128) (j : Fin 3200), (j : ℕ) = o + l → w (ix3 0 k l) = x4 (ix3 0 k j))
    (x : S1x512x128.Idx) (r : Fin 512) (j : Fin 3200) (hr : (r : ℕ) = x 1) (hj : (j : ℕ) = o + x 2) :
    k1_pay4 (k1_pay5 x0 x1 x2 x3) w x = projAt x0 x1 x2 x3 x4 r j := by
  obtain ⟨r', l, rfl⟩ : ∃ (r' : Fin 512) (l : Fin 128), x = ix3 (0 : Fin 1) r' l :=
    ⟨x 1, x 2, funext fun a => by
      match a with
      | ⟨0, _⟩ => exact Subsingleton.elim (α := Fin 1) _ _
      | ⟨1, _⟩ => rfl
      | ⟨2, _⟩ => rfl⟩
  obtain rfl : r = r' := Fin.ext hr
  rw [narrow_apply]
  exact Finset.sum_congr rfl fun k _ => congrArg₂ _ (rows_apply x0 x1 x2 x3 _ k) (hw k _ j hj)

end

/-- The block that the body stores, tile by tile, is the projection of the block's rows. -/
theorem block_apply (c : Dev nD) (i : grid1.Coords) (arg2 : Memref sig .tc .vmem S1x512x2048 .f32) (harg2 : arg2.IsWhole) (arg3 : Memref sig .tc .vmem S1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S1x2048x3200 .bf16) (harg6 : arg6.IsWhole) (arg7 : Memref sig .tc .vmem S1x512x3200 .bf16) (harg7 : arg7.IsWhole)
    (x0 : Vec Ideal S1x512x2048 .f32) (x1 : Vec Ideal S1x1x2048 .f32) (x2 : Vec Ideal S1x1x1x1x2048 .f32) (x3 : Vec Ideal S1x1x1x1x2048 .f32) (x4 : Vec Ideal S1x2048x3200 .bf16) (y : S1x512x3200.Idx) :
    out1_A_5 c i arg2 harg2 arg3 harg3 arg4 harg4 arg5 harg5 arg6 harg6 arg7 harg7 x0 x1 x2 x3 x4 y
      = projAt x0 x1 x2 x3 x4 (y 1) (y 2) := by
  frame_out
  canon_tiles x h using View.cover_of_tiledBy _ ![1, 512, 128] (by sl_kernel_rfl) y
  · exact narrow_of x0 x1 x2 x3 x4 3072 _ (fun k l j hj => load_of x4 _ k l j hj) x _ _ h1 (h2)
  · exact wide_of x0 x1 x2 x3 x4 2048 _ (fun k l j hj => load_of x4 _ k l j hj) x _ _ h1 (h2)
  · exact wide_of x0 x1 x2 x3 x4 1024 _ (fun k l j hj => load_of x4 _ k l j hj) x _ _ h1 (h2)
  · exact wide_of x0 x1 x2 x3 x4 0 _ (fun k l j hj => load_of x4 _ k l j hj) x _ _ h1 (h2.trans (by omega))

end Cert.Kernel4Ideal.InOdd
-- ==== Proof.InOdd.Claim.lean ====
module

public import proofs.«01_k».proof.Proof.InOdd.Run
public import proofs.«01_k».proof.Proof.InOdd.Entry
public import proofs.«01_k».proof.Proof.InOdd.Block
public import proofs.«01_k».proof.Proof.Gen.Reference4Ideal.Read

/-!
The odd layer's modulation and input projection over the extended reals: its result array is the reference's, index by index.
-/

@[expose] public section

set_option maxRecDepth 16384

noncomputable section

namespace Cert.Kernel4Ideal.InOdd

open Cert.Kernel4Ideal Cert.Kernel4Ideal.Gen Idealize.ShloMosaic Idealize.ShloMosaic.TcCoe Idealize.SL.Sem
open Cert.Layer

open Cert.Reference4Ideal.Read in
/-- One entry of the reference's product, before its columns are put in order. -/
theorem product_apply (h : (⟨Reference4Ideal.S4x4096x2048, .f32⟩ : BufTy).Contents (Elt Ideal)) (cnd : (⟨Reference4Ideal.S4x2048, .f32⟩ : BufTy).Contents (Elt Ideal)) (aw : (⟨Reference4Ideal.S2x2048x6144, .f32⟩ : BufTy).Contents (Elt Ideal)) (ab : (⟨Reference4Ideal.S2x6144, .f32⟩ : BufTy).Contents (Elt Ideal))
    (pre : (⟨Reference4Ideal.S2x2048, .f32⟩ : BufTy).Contents (Elt Ideal)) (w : (⟨Reference4Ideal.S2x2048x3136, .f32⟩ : BufTy).Contents (Elt Ideal)) (b : Fin 4) (r : Fin 4096) (j : Fin 3136) :
    val_main_v36 (F := Ideal) h cnd aw ab pre w (ix3 b r j)
      = projRow (fun l => h (ix3 b r l)) (fun l => pre (ix2 1 l))
          (fun l => adaRow (fun k => cnd (ix2 b k)) (fun k l => aw (ix3 1 k l)) (fun l => ab (ix2 1 l)) ⟨1 * 2048 + l, by omega⟩)
          (fun l => adaRow (fun k => cnd (ix2 b k)) (fun k l => aw (ix3 1 k l)) (fun l => ab (ix2 1 l)) ⟨0 * 2048 + l, by omega⟩)
          (fun k l => w (ix3 1 k l)) j := by
  simp only [val_main_v36, val_main_v35, val_main_v34, val_main_v33, val_main_v32, val_main_v31, val_main_v30, val_main_v29, val_main_v28, val_main_cst_2, val_main_v27, val_main_v26, val_main_v25, val_main_v24, val_main_v23, val_main_v22, val_main_v21, val_main_v20, val_main_cst_1, val_main_v19, val_main_v18, val_main_cst_0, val_main_v17, val_main_v16, val_main_cst, val_main_v15, val_main_v14, val_main_v13, val_main_v12, val_main_v11, val_main_v10, val_main_v9, val_main_v8, val_main_v7, val_main_v6, val_main_v5, val_main_v4, val_main_call0_v5, val_main_call0_v4, val_main_call0_cst_0, val_main_call0_v3, val_main_call0_v2, val_main_call0_cst, val_main_call0_v1, val_main_call0_v0, val_main_v3, val_main_v2, val_main_v1, val_main_v0]
  pointwise
  rfl

/-- The projection's weights in the order of the result's columns: the gate's columns first, the low-rank ones after them, then columns of zeros. -/
def packed (w : Fin 2048 → Fin 3136 → EReal) (k : Fin 2048) (j : Fin 3200) : EReal :=
  if h : j.val < 2048 then w k ⟨j.val + 1088, by omega⟩ else if h' : j.val < 3136 then w k ⟨j.val - 2048, by omega⟩ else 0

/-- A row times a column of the packed weights is the row times the column it was packed from. -/
theorem prod_packed (a : Fin 2048 → EReal) (w : Fin 2048 → Fin 3136 → EReal) (j : Fin 3200) :
    prod a (packed w) j = if h : j.val < 2048 then prod a w ⟨j.val + 1088, by omega⟩ else if h' : j.val < 3136 then prod a w ⟨j.val - 2048, by omega⟩ else 0 := by
  unfold prod packed
  by_cases h1 : j.val < 2048
  · simp only [dif_pos h1]
  · by_cases h2 : j.val < 3136
    · simp only [dif_neg h1, dif_pos h2]
    · simp only [dif_neg h1, dif_neg h2, mul_zero, Finset.sum_const_zero]

open Cert.Reference4Ideal.Read in
/-- One entry of the reference's result. -/
theorem reference_apply (h : (⟨Reference4Ideal.S4x4096x2048, .f32⟩ : BufTy).Contents (Elt Ideal)) (cnd : (⟨Reference4Ideal.S4x2048, .f32⟩ : BufTy).Contents (Elt Ideal)) (aw : (⟨Reference4Ideal.S2x2048x6144, .f32⟩ : BufTy).Contents (Elt Ideal)) (ab : (⟨Reference4Ideal.S2x6144, .f32⟩ : BufTy).Contents (Elt Ideal))
    (pre : (⟨Reference4Ideal.S2x2048, .f32⟩ : BufTy).Contents (Elt Ideal)) (w : (⟨Reference4Ideal.S2x2048x3136, .f32⟩ : BufTy).Contents (Elt Ideal)) (b : Fin 4) (r : Fin 4096) (j : Fin 3200) :
    val_main_v41 (F := Ideal) h cnd aw ab pre w (ix3 b r j)
      = projRow (fun l => h (ix3 b r l)) (fun l => pre (ix2 1 l))
          (fun l => adaRow (fun k => cnd (ix2 b k)) (fun k l => aw (ix3 1 k l)) (fun l => ab (ix2 1 l)) ⟨1 * 2048 + l, by omega⟩)
          (fun l => adaRow (fun k => cnd (ix2 b k)) (fun k l => aw (ix3 1 k l)) (fun l => ab (ix2 1 l)) ⟨0 * 2048 + l, by omega⟩)
          (packed fun k l => w (ix3 1 k l)) j := by
  refine Eq.trans ?_ (prod_packed _ _ j).symm
  have hp := fun j' => product_apply h cnd aw ab pre w b r j'
  unfold projRow at hp
  simp only [← hp]
  unfold val_main_v41 val_main_v40 val_main_v39 val_main_v38 val_main_v37
  generalize val_main_v36 (F := Ideal) h cnd aw ab pre w = y
  unfold val_main_call1_v0 val_main_c
  pointwise
  rw [show (FloatOps.sitofp (F := Ideal) .f32 (0#32) : EReal) = 0 from by
    show (((0#32 : BitVec 32).toInt : ℝ) : EReal) = 0
    simp]
  by_cases h1 : j.val < 2048
  · simp only [dif_pos (show j.val < 3136 by omega), dif_pos h1]
    exact congrArg (fun l => y (ix3 b r l)) (Fin.ext (Nat.add_comm _ _))
  · simp only [dif_neg h1]

/-! The windows' index maps at every grid point. -/

theorem idx1_h : ∀ t : Fin grid1.N, win1_0.index t = ![(grid1.coords t 0 : ℕ), (grid1.coords t 1 : ℕ), 0] := by
  decide +kernel
theorem idx1_pre : ∀ t : Fin grid1.N, win1_1.index t = ![1, 0, 0] := by
  decide +kernel
theorem idx1_scale : ∀ t : Fin grid1.N, win1_2.index t = ![1, 1, (grid1.coords t 0 : ℕ), 0, 0] := by
  decide +kernel
theorem idx1_shift : ∀ t : Fin grid1.N, win1_3.index t = ![1, 0, (grid1.coords t 0 : ℕ), 0, 0] := by
  decide +kernel
theorem idx1_w : ∀ t : Fin grid1.N, win1_4.index t = ![1, 0, 0] := by
  decide +kernel
theorem idx1_r : ∀ t : Fin grid1.N, win1_5.index t = ![(grid1.coords t 0 : ℕ), (grid1.coords t 1 : ℕ), 0] := by
  decide +kernel

variable (m : (ℓ : Loc nD τ sig) → Buf (Elt Ideal) ℓ) (ρ : Dev nD → PrngReg)

/-- The rows as the second call finds them. -/
theorem h_apply (c : Dev nD) : V3 m ρ c main_arg0 = m ((c.tc : Thread nD τ).loc main_arg0) :=
  W3_args m ρ c main_arg0 (by decide)

/-- The norm's weights as the second call finds them. -/
theorem pre_apply (c : Dev nD) (l : Fin 2048) : V3 m ρ c main_v10 (ix3 1 0 l) = m ((c.tc : Thread nD τ).loc main_arg4) (ix2 1 l) := by
  unfold V3 W3
  entry_read
  pointwise
  exact congrFun (W2_args m ρ c main_arg4 (by decide)) _

/-- What the host writes as the weights that the second call reads. -/
theorem packed_read (F : Valuation τ sig (Elt Ideal)) :
    (StableHlo.after hostOps1 F main_v9 : FVec Ideal S2x2048x3200 .bf16)
      = (truncf .bf16 (concatenate S2x2048x3200 2 [⟨S2x2048x2048, extractStridedSlice S2x2048x2048 ![0, 0, 1088] (F main_arg5 : (⟨S2x2048x3136, .f32⟩ : BufTy).Contents (Elt Ideal)) slices_S2x2048x3136_S2x2048x2048_0_0_1088⟩,
        ⟨S2x2048x1088, extractStridedSlice S2x2048x1088 ![0, 0, 0] (F main_arg5 : (⟨S2x2048x3136, .f32⟩ : BufTy).Contents (Elt Ideal)) slices_S2x2048x3136_S2x2048x1088_0_0_0⟩,
        ⟨S2x2048x64, broadcastInDim S2x2048x64 ![] bcast_S_S2x2048x64 (constant (F := Ideal) S_ .f32 0x00000000#32)⟩] concatenates_S2x2048x2048_S2x2048x1088_S2x2048x64_S2x2048x3200_d2 : FVec Ideal S2x2048x3200 .f32) bitsLt_bf16_f32) := rfl

/-- The parts put side by side, at an entry. -/
theorem packed_apply (y : (⟨S2x2048x3136, .f32⟩ : BufTy).Contents (Elt Ideal)) (k : Fin 2048) (j : Fin 3200) :
    concatenate S2x2048x3200 2 [⟨S2x2048x2048, extractStridedSlice S2x2048x2048 ![0, 0, 1088] y slices_S2x2048x3136_S2x2048x2048_0_0_1088⟩,
        ⟨S2x2048x1088, extractStridedSlice S2x2048x1088 ![0, 0, 0] y slices_S2x2048x3136_S2x2048x1088_0_0_0⟩,
        ⟨S2x2048x64, broadcastInDim S2x2048x64 ![] bcast_S_S2x2048x64 (constant (F := Ideal) S_ .f32 0x00000000#32)⟩] concatenates_S2x2048x2048_S2x2048x1088_S2x2048x64_S2x2048x3200_d2 (ix3 1 k j)
      = packed (fun k l => y (ix3 1 k l)) k j := by
  unfold packed
  pointwise
  by_cases h1 : j.val < 2048
  · simp only [dif_pos h1]
    exact congrArg (fun l => y (ix3 1 k l)) (Fin.ext (Nat.add_comm _ _))
  · by_cases h2 : j.val < 3136
    · simp only [dif_neg h1, dif_pos h2, dif_pos (show j.val - 2048 < 1088 by omega)]
    · simp only [dif_neg h1, dif_neg h2, dif_neg (show ¬ j.val - 2048 < 1088 by omega)]

/-- The projection's weights as the second call finds them. -/
theorem w_apply (c : Dev nD) (k : Fin 2048) (j : Fin 3200) :
    V3 m ρ c main_v9 (ix3 1 k j) = packed (fun k l => m ((c.tc : Thread nD τ).loc main_arg5) (ix3 1 k l)) k j :=
  ((congrFun (packed_read (W2 m ρ c)) (ix3 1 k j)).trans (packed_apply (W2 m ρ c main_arg5) k j)).trans
    (congrArg (fun y : (⟨S2x2048x3136, .f32⟩ : BufTy).Contents (Elt Ideal) => packed (fun k l => y (ix3 1 k l)) k j) (W2_args m ρ c main_arg5 (by decide)))

/-- The result array after the last grid point of the second call is the reference's result. -/
theorem array_eq (c : Dev nD) :
    (dat1 (V3 m ρ) c).arrAt 5 cfg1.N = Cert.Reference4Ideal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dat1 (V3 m ρ) c).arrAt_eq_of_covers 5 _ (by decide +kernel) fun t hf y => ?_
  blk_simp
  rw [after1_5]
  unfold outsAt1
  obtain ⟨r, j, rfl⟩ : ∃ (r : Fin 512) (j : Fin 3200), y = ix3 (0 : Fin 1) r j :=
    ⟨y 1, y 2, funext fun a => by
      match a with
      | ⟨0, _⟩ => exact Subsingleton.elim (α := Fin 1) _ _
      | ⟨1, _⟩ => rfl
      | ⟨2, _⟩ => rfl⟩
  obtain ⟨b, R, hb, hR, he⟩ : ∃ (b : Fin 4) (R : Fin 4096), (b : ℕ) = grid1.coords t 0 ∧ (R : ℕ) = grid1.coords t 1 * 512 + r ∧
      ((View.whole main_v11).slice (win1_5.rect t)).emb (ix3 (0 : Fin 1) r j) = ix3 b R j := by
    have h1 : (grid1.coords t 1 : ℕ) < 8 := (grid1.coords t 1).isLt
    refine ⟨grid1.coords t 0, ⟨grid1.coords t 1 * 512 + r, by omega⟩, rfl, rfl, ?_⟩
    blk_ext [idx1_r t]
  refine (block_apply _ _ _ _ _ _ _ _ _ _ _ _ _ _ _ _ _ _ _ _).trans ?_
  refine Eq.trans ?_ (congrArg _ he).symm
  rw [reference_apply]
  refine projRow_congr _ (fun k => ?_) (fun k => ?_) (fun k => ?_) (fun k => ?_) (fun k l => ?_)
  · refine Eq.trans ?_ (congrFun (h_apply m ρ c) _)
    blk_ext [iblk1, idx1_h t]
  · refine Eq.trans ?_ (pre_apply m ρ c k)
    blk_ext [iblk1, idx1_pre t]
  · refine Eq.trans ?_ (entry_table m ρ c 1 b k)
    blk_ext [iblk1, idx1_scale t]
  · refine Eq.trans ?_ (entry_table m ρ c 0 b k)
    blk_ext [iblk1, idx1_shift t]
  · refine Eq.trans ?_ (w_apply m ρ c k l)
    blk_ext [iblk1, idx1_w t]

end Cert.Kernel4Ideal.InOdd
-- ==== Proof.OutEven.Run.lean ====
module

public import proofs.«01_k».proof.Proof.Layer.Rows
public import proofs.«01_k».proof.Proof.Gen.Kernel5Ideal.Frame
public import Idealize.ShloMosaic.Lib.Pipeline.Value

/-!
The run of the even layer's modulation and output projection, over the extended reals: what every buffer of a
core holds at its end, and so the result array as the second call leaves it.
-/

@[expose] public section

set_option maxRecDepth 16384

noncomputable section

namespace Cert.Kernel5Ideal.OutEven

open Cert.Kernel5Ideal Cert.Kernel5Ideal.Gen Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

-- the launch theorem's implicit arguments are read off the conclusion, through definitions in their types
set_option backward.isDefEq.respectTransparency.types false in
/-- Every run of the program ends, and leaves each buffer of a core with the contents after its last call. -/
theorem run_final : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result array holds what the second call's write-backs leave, and the arguments are as they were. -/
theorem run_blocks : θ_run defs (onTc (τ := τ) (main (F := Ideal))) ⟨m, fun _ => 0, ρ⟩ fun r => ∀ c : Dev nD,
      r.2.mem ((c.tc : Thread nD τ).loc main_v7) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c _ (mem_uc main_v7 (by decide))).trans (W4_arr m ρ c 6),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩) (run_final m ρ)

end Cert.Kernel5Ideal.OutEven
-- ==== Proof.OutEven.Table.lean ====
module

public import proofs.«01_k».proof.Proof.Layer.Rows
public import proofs.«01_k».proof.Proof.Layer.Scatter
public import proofs.«01_k».proof.Proof.Gen.Kernel5Ideal.Frame
public import Idealize.ShloMosaic.Lib.Pipeline.Value

/-!
The modulation table that the first call leaves: for every layer and conditioning row, the shift, the scale and the gate.
-/

@[expose] public section

set_option maxRecDepth 16384

noncomputable section

namespace Cert.Kernel5Ideal.OutEven

open Cert.Kernel5Ideal Cert.Kernel5Ideal.Gen Idealize.ShloMosaic Idealize.ShloMosaic.TcCoe Idealize.SL.Sem
open Cert.Layer

/-- One entry of the block that the body stores, from the blocks it loads. -/
theorem table_payload_apply (cond : Vec Ideal S8x2048 .f32) (w : Vec Ideal S1x2048x1024 .f32) (bias : Vec Ideal S1x1x1024 .f32) (r : Fin 8) (l : Fin 1024) :
    k0_pay1 cond w bias (ix5 0 0 r 0 l)
      = adaRow (fun k => cond (ix2 r k)) (fun k l => w (ix3 0 k l)) (fun l => bias (ix3 0 0 l)) l := by
  unfold k0_pay1
  pointwise
  simp only [Layer.zero_sub]
  rfl

theorem idx_c : ∀ t : Fin grid0.N, win0_0.index t = ![0, 0] := by
  decide +kernel
theorem idx_aw : ∀ t : Fin grid0.N, win0_1.index t = ![(grid0.coords t 0 : ℕ), 0, (grid0.coords t 1 : ℕ)] := by
  decide +kernel
theorem idx_ab : ∀ t : Fin grid0.N, win0_2.index t = ![(grid0.coords t 0 : ℕ), 0, (grid0.coords t 1 : ℕ)] := by
  decide +kernel
theorem idx_t : ∀ t : Fin grid0.N, win0_3.index t = ![(grid0.coords t 0 : ℕ), (grid0.coords t 1 : ℕ) / 2, 0, 0, (grid0.coords t 1 : ℕ) % 2] := by
  decide +kernel

/-- The modulation table at layer `i`, part `s`, row `r`, column `l`, from the conditioning rows, the weights and the biases. -/
def tableAt (cond : (⟨S8x2048, .f32⟩ : BufTy).Contents (Elt Ideal)) (w : (⟨S2x2048x6144, .f32⟩ : BufTy).Contents (Elt Ideal)) (bias : (⟨S2x1x6144, .f32⟩ : BufTy).Contents (Elt Ideal))
    (i : Fin 2) (s : Fin 3) (r : Fin 8) (l : Fin 2048) : EReal :=
  adaRow (fun k => cond (ix2 r k)) (fun k l => w (ix3 i k l)) (fun l => bias (ix3 i 0 l)) ⟨s * 2048 + l, by omega⟩

variable (V : (c : Dev nD) → (b : Ref sig .tc) → Buf (Elt Ideal) ((c : Thread nD τ).loc b))

/-- The table after the first call's last grid point. -/
theorem table_eq (c : Dev nD) :
    (dat0 V c).arrAt 3 cfg0.N = fun x : S2x3x8x1x2048.Idx => tableAt (V c main_v2) (V c main_arg3) (V c main_v3) (x 0) (x 1) (x 2) (x 4) := by
  refine (dat0 V c).arrAt_eq_of_covers 3 _ (by decide +kernel) fun t hf y => ?_
  blk_simp
  rw [after0_3]
  unfold out0_3
  obtain ⟨r, l, rfl⟩ : ∃ (r : Fin 8) (l : Fin 1024), y = ix5 (0 : Fin 1) (0 : Fin 1) r (0 : Fin 1) l :=
    ⟨y 2, y 4, funext fun a => by
      match a with
      | ⟨0, _⟩ => exact Subsingleton.elim (α := Fin 1) _ _
      | ⟨1, _⟩ => exact Subsingleton.elim (α := Fin 1) _ _
      | ⟨2, _⟩ => rfl
      | ⟨3, _⟩ => exact Subsingleton.elim (α := Fin 1) _ _
      | ⟨4, _⟩ => rfl⟩
  have h1 : (grid0.coords t 1 : ℕ) < 6 := (grid0.coords t 1).isLt
  have he : ((View.whole main_v4).slice (win0_3.rect t)).emb (ix5 (0 : Fin 1) (0 : Fin 1) r (0 : Fin 1) l)
      = ix5 (grid0.coords t 0) ⟨grid0.coords t 1 / 2, by omega⟩ r 0 ⟨grid0.coords t 1 % 2 * 1024 + l, by omega⟩ := by
    blk_ext [idx_t t]
  rw [he]
  frame_out
  refine (table_payload_apply _ _ _ r l).trans ?_
  unfold tableAt adaRow
  congr 1
  · unfold prod
    refine Finset.sum_congr rfl fun k _ => ?_
    congr 1
    · refine congrArg silu ?_
      blk_ext [iblk0, idx_c t]
    · blk_ext [iblk0, idx_aw t]
  · blk_ext [iblk0, idx_ab t]

end Cert.Kernel5Ideal.OutEven
-- ==== Proof.OutEven.Entry.lean ====
module

public import proofs.«01_k».proof.Proof.OutEven.Table

/-!
The modulation table as the second call finds it, in terms of the program's arguments.
-/

@[expose] public section

set_option maxRecDepth 16384

noncomputable section

namespace Cert.Kernel5Ideal.OutEven

open Cert.Kernel5Ideal Cert.Kernel5Ideal.Gen Idealize.ShloMosaic Idealize.ShloMosaic.TcCoe Idealize.SL.Sem
open Cert.Layer

/-- A table entry, its conditioning row, weights and biases named. -/
theorem tableAt_of {cond : (⟨S8x2048, .f32⟩ : BufTy).Contents (Elt Ideal)} {w : (⟨S2x2048x6144, .f32⟩ : BufTy).Contents (Elt Ideal)}
    {bias : (⟨S2x1x6144, .f32⟩ : BufTy).Contents (Elt Ideal)} {i : Fin 2} {s : Fin 3} {r : Fin 8} {l : Fin 2048}
    {cond' : Fin 2048 → EReal} {w' : Fin 2048 → Fin 6144 → EReal} {bias' : Fin 6144 → EReal}
    (hc : ∀ k, cond (ix2 r k) = cond' k) (hw : ∀ k l, w (ix3 i k l) = w' k l) (hb : ∀ l, bias (ix3 i 0 l) = bias' l) :
    tableAt cond w bias i s r l = adaRow cond' w' bias' ⟨s * 2048 + l, by omega⟩ := by
  obtain rfl := funext hc
  obtain rfl := funext fun k => funext (hw k)
  obtain rfl := funext hb
  rfl

variable (m : (ℓ : Loc nD τ sig) → Buf (Elt Ideal) ℓ) (ρ : Dev nD → PrngReg)

/-- The padded conditioning rows at a row that is not padding. -/
theorem cond_apply (c : Dev nD) (b : Fin 4) (k : Fin 2048) :
    V1 m ρ c main_v2 (ix2 ⟨b, by omega⟩ k) = m ((c.tc : Thread nD τ).loc main_arg2) (ix2 b k) := by
  unfold V1 W1 W0
  entry_read
  exact scatter_rows (A := 4) (B := 8) (N := 2048) (by decide) _ _ _ _ (by decide) b k

/-- The biases as the first call finds them. -/
theorem bias_apply (c : Dev nD) (l : Fin 6144) :
    V1 m ρ c main_v3 (ix3 1 0 l) = m ((c.tc : Thread nD τ).loc main_arg4) (ix2 1 l) := by
  unfold V1 W1 W0
  entry_read
  pointwise

/-- The second call reads the table of the model's modulation: layer 1, part `s`, batch `b`, column `l`. -/
theorem entry_table (c : Dev nD) (s : Fin 3) (b : Fin 4) (l : Fin 2048) :
    V3 m ρ c main_v4 (ix5 1 s ⟨b, by omega⟩ 0 l)
      = adaRow (fun k => m ((c.tc : Thread nD τ).loc main_arg2) (ix2 b k)) (fun k l => m ((c.tc : Thread nD τ).loc main_arg3) (ix3 1 k l))
          (fun l => m ((c.tc : Thread nD τ).loc main_arg4) (ix2 1 l)) ⟨s * 2048 + l, by omega⟩ := by
  have h : V3 m ρ c main_v4 = (dat0 (V1 m ρ) c).arrAt 3 cfg0.N := (W3_of m ρ c main_v4 (by decide)).trans (W2_arr m ρ c 3)
  rw [h, table_eq]
  exact tableAt_of (fun k => cond_apply m ρ c b k) (fun k l => congrFun (W1_of m ρ c main_arg3 (by decide)) _) (fun l => bias_apply m ρ c l)

end Cert.Kernel5Ideal.OutEven
-- ==== Proof.OutEven.Claim.lean ====
module

public import proofs.«01_k».proof.Proof.OutEven.Run
public import proofs.«01_k».proof.Proof.OutEven.Entry
public import proofs.«01_k».proof.Proof.Gen.Reference5Ideal.Read

/-!
The even layer's modulation and output projection over the extended reals: its result array is the reference's, index by index.
-/

@[expose] public section

set_option maxRecDepth 16384

noncomputable section

namespace Cert.Kernel5Ideal.OutEven

open Cert.Kernel5Ideal Cert.Kernel5Ideal.Gen Idealize.ShloMosaic Idealize.ShloMosaic.TcCoe Idealize.SL.Sem
open Cert.Layer

/-- Two rows of 1024 entries, one after the other. -/
def joined (a b : Fin 1024 → EReal) (k : Fin 2048) : EReal :=
  if h : k.val < 1024 then a ⟨k, h⟩ else b ⟨k.val - 1024, by omega⟩

/-- A joined row times a matrix is its halves times the matrix's halves, added. -/
theorem prod_joined (a b : Fin 1024 → EReal) (w : Fin 2048 → Fin 2048 → EReal) (j : Fin 2048) :
    prod (joined a b) w j = prod a (fun k => w ⟨k, by omega⟩) j + prod b (fun k => w ⟨1024 + k, by omega⟩) j := by
  have ha : ∀ k : Fin 1024, joined a b ⟨k, by omega⟩ = a k := fun k => dif_pos k.isLt
  have hb : ∀ k : Fin 1024, joined a b ⟨1024 + k, by omega⟩ = b k := fun k =>
    (dif_neg (show ¬ 1024 + k.val < 1024 by omega)).trans (congrArg b (Fin.ext (show 1024 + k.val - 1024 = k.val by omega)))
  rw [prod_halves]
  simp only [ha, hb]

/-- One entry of the block that the body stores, from the blocks it loads. -/
theorem payload_apply (ya yb : Vec Ideal S1x512x1024 .bf16) (wa wb : Vec Ideal S1x1024x2048 .bf16) (post : Vec Ideal S1x1x2048 .f32) (h : Vec Ideal S1x512x2048 .f32) (gate : Vec Ideal S1x1x1x1x2048 .f32) (w : Fin 2048 → Fin 2048 → EReal)
    (hwa : ∀ (k : Fin 1024) (l : Fin 2048), wa (ix3 0 k l) = w ⟨k, by omega⟩ l) (hwb : ∀ (k : Fin 1024) (l : Fin 2048), wb (ix3 0 k l) = w ⟨1024 + k, by omega⟩ l) (r : Fin 512) (j : Fin 2048) :
    k1_pay1 (k1_pay2 ya wa yb wb post) (k1_pay3 h) (k1_pay4 gate) (ix3 0 r j)
      = outRow (joined (fun k => ya (ix3 0 r k)) (fun k => yb (ix3 0 r k))) w (fun l => post (ix3 0 0 l)) (fun l => gate (ix5 0 0 0 0 l)) (fun l => h (ix3 0 r l)) j := by
  unfold outRow
  rw [show prod (joined (fun k => ya (ix3 0 r k)) (fun k => yb (ix3 0 r k))) w
      = fun l => prod (fun k => ya (ix3 0 r k)) (fun k l => wa (ix3 0 k l)) l + prod (fun k => yb (ix3 0 r k)) (fun k l => wb (ix3 0 k l)) l from
    funext fun l => (prod_joined _ _ w l).trans (by simp only [hwa, hwb])]
  unfold k1_pay1 k1_pay2 k1_pay3 k1_pay4
  pointwise
  rfl

/-- A load of half of the weights' rows, from row `o` on, at an entry. -/
theorem load_of {o : ℕ} (w : Vec Ideal S1x2048x2048 .bf16) (inb) (k : Fin 1024) (l i : Fin 2048) (hi : (i : ℕ) = o + k) :
    View.ld w (Rect.unit ![0, o, 0] ![1, 1024, 2048] inb) (ix3 0 k l) = w (ix3 0 i l) :=
  View.ld_unit_apply_of _ _ _ inb _ _ fun a => by
    match a with
    | ⟨0, _⟩ => rfl
    | ⟨1, _⟩ => exact hi
    | ⟨2, _⟩ => exact (Nat.zero_add _).symm

/-- One entry of the block that the body stores. -/
theorem block_apply (ya yb : Vec Ideal S1x512x1024 .bf16) (w : Vec Ideal S1x2048x2048 .bf16) (post : Vec Ideal S1x1x2048 .f32) (gate : Vec Ideal S1x1x1x1x2048 .f32) (h : Vec Ideal S1x512x2048 .f32) (r : Fin 512) (j : Fin 2048) :
    out1_6 ya yb w post gate h (ix3 0 r j)
      = outRow (joined (fun k => ya (ix3 0 r k)) (fun k => yb (ix3 0 r k))) (fun k l => w (ix3 0 k l)) (fun l => post (ix3 0 0 l)) (fun l => gate (ix5 0 0 0 0 l)) (fun l => h (ix3 0 r l)) j := by
  frame_out
  exact payload_apply _ _ _ _ _ _ _ _ (fun k l => load_of w _ k l ⟨k, by omega⟩ (Nat.zero_add _).symm) (fun k l => load_of w _ k l ⟨1024 + k, by omega⟩ rfl) r j

open Cert.Reference5Ideal.Read in
/-- One entry of the reference's result. -/
theorem reference_apply (ya yb : (⟨Reference5Ideal.S4x4096x1024, .bf16⟩ : BufTy).Contents (Elt Ideal)) (cnd : (⟨Reference5Ideal.S4x2048, .f32⟩ : BufTy).Contents (Elt Ideal)) (aw : (⟨Reference5Ideal.S2x2048x6144, .f32⟩ : BufTy).Contents (Elt Ideal)) (ab : (⟨Reference5Ideal.S2x6144, .f32⟩ : BufTy).Contents (Elt Ideal))
    (post : (⟨Reference5Ideal.S2x2048, .f32⟩ : BufTy).Contents (Elt Ideal)) (w : (⟨Reference5Ideal.S2x2048x2048, .f32⟩ : BufTy).Contents (Elt Ideal)) (h : (⟨Reference5Ideal.S4x4096x2048, .f32⟩ : BufTy).Contents (Elt Ideal)) (b : Fin 4) (r : Fin 4096) (j : Fin 2048) :
    val_main_v36 (F := Ideal) ya yb cnd aw ab post w h (ix3 b r j)
      = outRow (joined (fun k => ya (ix3 b r k)) (fun k => yb (ix3 b r k))) (fun k l => w (ix3 1 k l)) (fun l => post (ix2 1 l))
          (fun l => adaRow (fun k => cnd (ix2 b k)) (fun k l => aw (ix3 1 k l)) (fun l => ab (ix2 1 l)) ⟨2 * 2048 + l, by omega⟩) (fun l => h (ix3 b r l)) j := by
  unfold outRow
  rw [show prod (joined (fun k => ya (ix3 b r k)) (fun k => yb (ix3 b r k))) (fun k l => w (ix3 1 k l))
      = fun l => prod (fun k => ya (ix3 b r k)) (fun k l => w (ix3 1 ⟨k, by omega⟩ l)) l + prod (fun k => yb (ix3 b r k)) (fun k l => w (ix3 1 ⟨1024 + k, by omega⟩ l)) l from
    funext fun l => prod_joined _ _ _ l]
  rw [← val_main_v36_eq]
  pointwise
  rfl

/-! The windows' index maps at every grid point. -/

theorem idx1_ya : ∀ t : Fin grid1.N, win1_0.index t = ![(grid1.coords t 0 : ℕ), (grid1.coords t 1 : ℕ), 0] := by
  decide +kernel
theorem idx1_yb : ∀ t : Fin grid1.N, win1_1.index t = ![(grid1.coords t 0 : ℕ), (grid1.coords t 1 : ℕ), 0] := by
  decide +kernel
theorem idx1_w : ∀ t : Fin grid1.N, win1_2.index t = ![1, 0, 0] := by
  decide +kernel
theorem idx1_post : ∀ t : Fin grid1.N, win1_3.index t = ![1, 0, 0] := by
  decide +kernel
theorem idx1_gate : ∀ t : Fin grid1.N, win1_4.index t = ![1, 2, (grid1.coords t 0 : ℕ), 0, 0] := by
  decide +kernel
theorem idx1_h : ∀ t : Fin grid1.N, win1_5.index t = ![(grid1.coords t 0 : ℕ), (grid1.coords t 1 : ℕ), 0] := by
  decide +kernel
theorem idx1_r : ∀ t : Fin grid1.N, win1_6.index t = ![(grid1.coords t 0 : ℕ), (grid1.coords t 1 : ℕ), 0] := by
  decide +kernel

variable (m : (ℓ : Loc nD τ sig) → Buf (Elt Ideal) ℓ) (ρ : Dev nD → PrngReg)

/-- The norm's weights as the second call finds them. -/
theorem post_apply (c : Dev nD) (l : Fin 2048) : V3 m ρ c main_v6 (ix3 1 0 l) = m ((c.tc : Thread nD τ).loc main_arg5) (ix2 1 l) := by
  unfold V3 W3
  entry_read
  pointwise
  exact congrFun (W2_args m ρ c main_arg5 (by decide)) _

/-- The projection's weights as the second call finds them. -/
theorem w_apply (c : Dev nD) (k l : Fin 2048) : V3 m ρ c main_v5 (ix3 1 k l) = m ((c.tc : Thread nD τ).loc main_arg6) (ix3 1 k l) := by
  unfold V3 W3
  entry_read
  pointwise
  exact congrFun (W2_args m ρ c main_arg6 (by decide)) _

/-- The result array after the last grid point of the second call is the reference's result. -/
theorem array_eq (c : Dev nD) :
    (dat1 (V3 m ρ) c).arrAt 6 cfg1.N = Cert.Reference5Ideal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dat1 (V3 m ρ) c).arrAt_eq_of_covers 6 _ (by decide +kernel) fun t hf y => ?_
  blk_simp
  rw [after1_6]
  obtain ⟨r, j, rfl⟩ : ∃ (r : Fin 512) (j : Fin 2048), y = ix3 (0 : Fin 1) r j :=
    ⟨y 1, y 2, funext fun a => by
      match a with
      | ⟨0, _⟩ => exact Subsingleton.elim (α := Fin 1) _ _
      | ⟨1, _⟩ => rfl
      | ⟨2, _⟩ => rfl⟩
  obtain ⟨b, R, hb, hR, he⟩ : ∃ (b : Fin 4) (R : Fin 4096), (b : ℕ) = grid1.coords t 0 ∧ (R : ℕ) = grid1.coords t 1 * 512 + r ∧
      ((View.whole main_v7).slice (win1_6.rect t)).emb (ix3 (0 : Fin 1) r j) = ix3 b R j := by
    have h1 : (grid1.coords t 1 : ℕ) < 8 := (grid1.coords t 1).isLt
    refine ⟨grid1.coords t 0, ⟨grid1.coords t 1 * 512 + r, by omega⟩, rfl, rfl, ?_⟩
    blk_ext [idx1_r t]
  refine (block_apply _ _ _ _ _ _ r j).trans ?_
  refine Eq.trans ?_ (congrArg _ he).symm
  rw [reference_apply]
  refine outRow_congr _ (fun k => ?_) (fun k l => ?_) (fun k => ?_) (fun k => ?_) (fun k => ?_)
  · refine congrFun (congrArg₂ joined (funext fun k => ?_) (funext fun k => ?_)) k
    · refine Eq.trans ?_ (congrFun (W3_args m ρ c main_arg0 (by decide)) _)
      blk_ext [iblk1, idx1_ya t]
    · refine Eq.trans ?_ (congrFun (W3_args m ρ c main_arg1 (by decide)) _)
      blk_ext [iblk1, idx1_yb t]
  · refine Eq.trans ?_ (w_apply m ρ c k l)
    blk_ext [iblk1, idx1_w t]
  · refine Eq.trans ?_ (post_apply m ρ c k)
    blk_ext [iblk1, idx1_post t]
  · refine Eq.trans ?_ (entry_table m ρ c 2 b k)
    blk_ext [iblk1, idx1_gate t]
  · refine Eq.trans ?_ (congrFun (W3_args m ρ c main_arg7 (by decide)) _)
    blk_ext [iblk1, idx1_h t]

end Cert.Kernel5Ideal.OutEven
-- ==== Proof.Layer.Rope.lean ====
module

public import proofs.«01_k».proof.Proof.Layer.Rows

/-!
The rows that the query, key and value call computes, as functions over the extended reals: the normalised latent, the
rotary embedding of 64 lanes, and the same embedding done on 128 lanes with tables of 128 lanes.
-/

@[expose] public section

noncomputable section

namespace Cert.Layer

open Idealize.ShloMosaic

/-- Root mean square normalisation of a latent of 512 entries, times the norm's weights. -/
def latent (x g : Fin 512 → EReal) (k : Fin 512) : EReal :=
  x k * Ideal.rsqrt (Ideal.div (∑ l, x l * x l) (Ideal.ofBits .f32 1140850688#32) + Ideal.ofBits .f32 897988541#32) * g k

/-- The factor that the queries carry, as printed. -/
def qScale : EReal := Ideal.ofBits .f32 1037384597#32

/-- The angle of frequency `l` at position `p`. -/
def angle (p : BitVec 32) (l : Fin 32) : EReal :=
  FloatOps.sitofp (F := Ideal) FTy.f32 p *
    Ideal.div 1 (Ideal.pow (Ideal.ofBits .f32 1176256512#32)
      (Ideal.div (Ideal.ofBits .f32 1073741824#32 * FloatOps.sitofp (F := Ideal) FTy.f32 (BitVec.ofNat 32 l)) (Ideal.ofBits .f32 1115684864#32)))

/-- Rotary embedding of 64 lanes: lane `l` is paired with lane `32 + l`. -/
def rope (x : Fin 64 → EReal) (c s : Fin 32 → EReal) (q : Fin 64) : EReal :=
  if h : (q : ℕ) < 32 then x ⟨q, by omega⟩ * c ⟨q, h⟩ - x ⟨32 + q, by omega⟩ * s ⟨q, h⟩
  else x ⟨32 + (q - 32), by omega⟩ * c ⟨q - 32, by omega⟩ + x ⟨q - 32, by omega⟩ * s ⟨q - 32, by omega⟩

/-- The embedding on 128 lanes: each lane times one table, plus its partner lane times another. -/
def rot (x c s : Fin 128 → EReal) (k : Fin 128) : EReal :=
  x k * c k + Scalar.select (IntOp.cmpi .slt (BitVec.ofNat 32 k) 32#32)
    (x ⟨(k + 128 - 96) % 128, Nat.mod_lt _ (by norm_num)⟩) (x ⟨(k + 128 - 32) % 128, Nat.mod_lt _ (by norm_num)⟩) * s k

/-- A table of 128 lanes: two parts of 32 lanes, and zeros. -/
def table (f g : Fin 32 → EReal) (k : Fin 128) : EReal :=
  if h : (k : ℕ) < 32 then f ⟨k, h⟩ else if h' : (k : ℕ) < 64 then g ⟨k - 32, by omega⟩ else 0

/-- The lane whose value is selected: the one 32 above for the first 32 lanes, the one 32 below for the others. -/
theorem partner (x y : EReal) (k : Fin 128) :
    Scalar.select (IntOp.cmpi .slt (BitVec.ofNat 32 k) 32#32) x y = if (k : ℕ) < 32 then x else y := by
  have hk : (IntOp.cmpi .slt (BitVec.ofNat 32 k) 32#32) = if (k : ℕ) < 32 then 1#1 else 0#1 := by
    revert k
    decide
  rw [hk]
  by_cases h : (k : ℕ) < 32
  · simp only [if_pos h]; rfl
  · simp only [if_neg h]; rfl

/-- On the first 64 lanes the embedding on 128 lanes is the rotary embedding; on the others it is zero. -/
theorem rot_table (x : Fin 128 → EReal) (c s : Fin 32 → EReal) (k : Fin 128) :
    rot x (table c c) (table (fun l => -s l) s) k
      = if h : (k : ℕ) < 64 then rope (fun l => x ⟨l, by omega⟩) c s ⟨k, h⟩ else 0 := by
  unfold rot table rope
  rw [partner]
  by_cases h1 : (k : ℕ) < 32
  · have hp : (⟨(k + 128 - 96) % 128, Nat.mod_lt _ (by norm_num)⟩ : Fin 128) = ⟨32 + k, by omega⟩ := Fin.ext (show ((k : ℕ) + 128 - 96) % 128 = 32 + k by omega)
    simp only [dif_pos h1, if_pos h1, dif_pos (show (k : ℕ) < 64 by omega), hp]
    rw [sub_eq_add_neg, mul_neg]
  · by_cases h2 : (k : ℕ) < 64
    · have hp : (⟨(k + 128 - 32) % 128, Nat.mod_lt _ (by norm_num)⟩ : Fin 128) = ⟨k - 32, by omega⟩ := Fin.ext (show ((k : ℕ) + 128 - 32) % 128 = k - 32 by omega)
      have hq : (⟨32 + (k - 32), by omega⟩ : Fin 128) = k := Fin.ext (show 32 + ((k : ℕ) - 32) = k by omega)
      simp only [dif_neg h1, if_neg h1, dif_pos h2, hp, hq]
    · simp only [dif_neg h1, dif_neg h2, mul_zero, add_zero]

/-- A row of 256 query lanes as a tile computes it, from a normalised latent, one head's columns and the tables. -/
def qTile (a : Fin 512 → EReal) (c s : Fin 128 → EReal) (w : Fin 512 → Fin 256 → EReal) (k : Fin 256) : EReal :=
  if h : (k : ℕ) < 128 then prod a w k * qScale
  else rot (fun l => prod a w ⟨128 + l, by omega⟩ * qScale) c s ⟨k - 128, by omega⟩

/-- A row of 256 query lanes: 128 lanes without positions, 64 embedded lanes, zeros. -/
def qEntry (a : Fin 512 → EReal) (c s : Fin 32 → EReal) (w : Fin 512 → Fin 192 → EReal) (k : Fin 256) : EReal :=
  if h : (k : ℕ) < 128 then prod a w ⟨k, by omega⟩ * qScale
  else if h' : (k : ℕ) - 128 < 64 then rope (fun l => prod a w ⟨128 + l, by omega⟩ * qScale) c s ⟨k - 128, h'⟩ else 0

/-- A row of 256 key lanes: 128 lanes of the head's product, 128 lanes that all heads share. -/
def kTile (a : Fin 512 → EReal) (p : Fin 128 → EReal) (w : Fin 512 → Fin 256 → EReal) (k : Fin 256) : EReal :=
  if h : (k : ℕ) < 128 then prod a w k else p ⟨k - 128, by omega⟩

/-- A row of 256 key lanes: 128 lanes without positions, 64 embedded lanes, zeros. -/
def kEntry (a : Fin 512 → EReal) (x : Fin 64 → EReal) (c s : Fin 32 → EReal) (w : Fin 512 → Fin 256 → EReal) (k : Fin 256) : EReal :=
  if h : (k : ℕ) < 128 then prod a w k else if h' : (k : ℕ) - 128 < 64 then rope x c s ⟨k - 128, h'⟩ else 0

/-- A tile's query row is the plain one when its columns agree with the head's 192; the columns after them are multiplied by
zeros of the tables only. -/
theorem qTile_eq (a : Fin 512 → EReal) (c s : Fin 32 → EReal) (w : Fin 512 → Fin 256 → EReal) (w' : Fin 512 → Fin 192 → EReal)
    (hw : ∀ k (l : Fin 192), w k ⟨l, by omega⟩ = w' k l) (k : Fin 256) :
    qTile a (table c c) (table (fun l => -s l) s) w k = qEntry a c s w' k := by
  have hp : ∀ l : Fin 192, prod a w ⟨l, by omega⟩ = prod a w' l := fun l => Finset.sum_congr rfl fun k _ => congrArg _ (hw k l)
  unfold qTile qEntry
  by_cases h : (k : ℕ) < 128
  · simp only [dif_pos h]
    exact congrArg (· * qScale) (hp ⟨k, by omega⟩)
  · simp only [dif_neg h, rot_table]
    by_cases h' : (k : ℕ) - 128 < 64
    · simp only [dif_pos h']
      exact congrArg (fun x => rope x c s _) (funext fun l => congrArg (· * qScale) (hp ⟨128 + l, by omega⟩))
    · simp only [dif_neg h']

/-- A tile's key row is the plain one when the shared lanes are the embedding on 128 lanes. -/
theorem kTile_eq (a : Fin 512 → EReal) (x : Fin 128 → EReal) (c s : Fin 32 → EReal) (w : Fin 512 → Fin 256 → EReal) (k : Fin 256) :
    kTile a (rot x (table c c) (table (fun l => -s l) s)) w k = kEntry a (fun l => x ⟨l, by omega⟩) c s w k := by
  unfold kTile kEntry
  by_cases h : (k : ℕ) < 128
  · simp only [dif_pos h]
  · simp only [dif_neg h, rot_table]

end Cert.Layer
-- ==== Proof.Qkv.Block.lean ====
module

public import proofs.«01_k».proof.Proof.Layer.Rope
public import proofs.«01_k».proof.Proof.Gen.Kernel6Ideal.Value

/-!
The blocks of queries, keys and values that one grid point stores, over the extended reals: sixteen tiles each, one per head.
-/

@[expose] public section

set_option maxRecDepth 16384

noncomputable section

namespace Cert.Kernel6Ideal.Qkv

open Cert.Kernel6Ideal Cert.Kernel6Ideal.Gen Idealize.ShloMosaic Idealize.ShloMosaic.TcCoe Idealize.SL.Sem
open Cert.Layer

/-- The normalised latent of the queries, at an entry. -/
theorem latq_apply (x : Vec Ideal S1x512x512 .bf16) (g : Vec Ideal S1x1x512 .f32) (r k : Fin 512) :
    k0_pay3 x g (ix2 r k) = latent (fun l => x (ix3 0 r l)) (fun l => g (ix3 0 0 l)) k := by
  unfold k0_pay3
  pointwise
  rfl

/-- The normalised latent of the keys and values, at an entry. -/
theorem latkv_apply (x : Vec Ideal S1x512x512 .bf16) (g : Vec Ideal S1x1x512 .f32) (r k : Fin 512) :
    k0_pay4 x g (ix2 r k) = latent (fun l => x (ix3 0 r l)) (fun l => g (ix3 0 0 l)) k := by
  unfold k0_pay4
  pointwise
  rfl

/-- The embedded lanes that the keys of all heads share, at an entry. -/
theorem shared_apply (c s : Vec Ideal S1x512x128 .f32) (x : Vec Ideal S1x512x128 .bf16) (r : Fin 512) (k : Fin 128) :
    k0_pay7 c s x (ix2 r k) = rot (fun l => x (ix3 0 r l)) (fun l => c (ix3 0 r l)) (fun l => s (ix3 0 r l)) k := by
  unfold k0_pay7 k0_pay5 k0_pay6
  pointwise
  rfl

/-- A head's queries, at an entry. -/
theorem q_tile (z : FVec Ideal S512x512 .bf16) (c s : Vec Ideal S1x512x128 .f32) (w : Vec Ideal S1x512x256 .bf16) (r : Fin 512) (k : Fin 256) :
    k0_pay8 z c s w (ix4 0 0 r k) = qTile (fun o => z (ix2 r o)) (fun l => c (ix3 0 r l)) (fun l => s (ix3 0 r l)) (fun o l => w (ix3 0 o l)) k := by
  unfold k0_pay8 k0_pay5 k0_pay6
  pointwise
  rfl

/-- A head's keys, at an entry. -/
theorem k_tile (z : FVec Ideal S512x512 .bf16) (p : FVec Ideal S512x128 .f32) (w : Vec Ideal S1x512x256 .bf16) (r : Fin 512) (k : Fin 256) :
    k0_pay10 z p w (ix4 0 0 r k) = kTile (fun o => z (ix2 r o)) (fun l => p (ix2 r l)) (fun o l => w (ix3 0 o l)) k := by
  unfold k0_pay10 k0_pay9
  pointwise
  rfl

/-- A head's values, at an entry. -/
theorem v_tile (z : FVec Ideal S512x512 .bf16) (w : Vec Ideal S1x512x256 .bf16) (r : Fin 512) (k : Fin 128) :
    k0_pay11 z w (ix4 0 0 r k) = prod (fun o => z (ix2 r o)) (fun o l => w (ix3 0 o l)) ⟨128 + k, by omega⟩ := by
  unfold k0_pay11 k0_pay9
  pointwise
  rfl

/-- A load of a head's 256 columns of weights, at an entry. -/
theorem load_of (y : Vec Ideal S1x512x4096 .bf16) {b : ℕ} (inb) (k : Fin 512) (l : Fin 256) (h : Fin 16) (hb : b = (h : ℕ) * 256) :
    View.ld y (Rect.unit ![0, 0, b] ![1, 512, 256] inb) (ix3 0 k l) = y (ix3 0 k ⟨h * 256 + l, by omega⟩) :=
  View.ld_unit_apply_of _ _ _ inb _ _ fun a => by
    match a with
    | ⟨0, _⟩ => rfl
    | ⟨1, _⟩ => exact (Nat.zero_add _).symm
    | ⟨2, _⟩ => exact congrArg (· + (l : ℕ)) hb.symm

section
variable (x0 x1 : Vec Ideal S1x512x512 .bf16) (x2 : Vec Ideal S1x512x128 .bf16) (x3 x4 : Vec Ideal S1x512x128 .f32) (x5 x6 : Vec Ideal S1x1x512 .f32) (x7 x8 : Vec Ideal S1x512x4096 .bf16)

/-- Row `r` of head `h`'s queries in a block. -/
abbrev qAt (h : Fin 16) (r : Fin 512) (k : Fin 256) : EReal :=
  qTile (latent (fun l => x0 (ix3 0 r l)) (fun l => x5 (ix3 0 0 l))) (fun l => x3 (ix3 0 r l)) (fun l => x4 (ix3 0 r l)) (fun o l => x7 (ix3 0 o ⟨h * 256 + l, by omega⟩)) k

/-- Row `r` of head `h`'s keys in a block. -/
abbrev kAt (h : Fin 16) (r : Fin 512) (k : Fin 256) : EReal :=
  kTile (latent (fun l => x1 (ix3 0 r l)) (fun l => x6 (ix3 0 0 l))) (rot (fun l => x2 (ix3 0 r l)) (fun l => x3 (ix3 0 r l)) (fun l => x4 (ix3 0 r l))) (fun o l => x8 (ix3 0 o ⟨h * 256 + l, by omega⟩)) k

/-- Row `r` of head `h`'s values in a block. -/
abbrev vAt (h : Fin 16) (r : Fin 512) (k : Fin 128) : EReal :=
  prod (latent (fun l => x1 (ix3 0 r l)) (fun l => x6 (ix3 0 0 l))) (fun (o : Fin 512) (l : Fin 256) => x8 (ix3 0 o ⟨h * 256 + l, by omega⟩)) ⟨128 + k, by omega⟩

/-- A stored tile of queries holds the head's rows. -/
theorem q_of (h : Fin 16) {b : ℕ} (inb) (hb : b = (h : ℕ) * 256) (x : S1x1x512x256.Idx) (r : Fin 512) (k : Fin 256) (hr : r = x 2) (hk : k = x 3) :
    k0_pay8 (k0_pay3 x0 x5) x3 x4 (View.ld x7 (Rect.unit ![0, 0, b] ![1, 512, 256] inb)) x = qAt x0 x3 x4 x5 x7 h r k := by
  obtain ⟨r', k', rfl⟩ : ∃ (r' : Fin 512) (k' : Fin 256), x = ix4 (0 : Fin 1) (0 : Fin 1) r' k' :=
    ⟨x 2, x 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  obtain rfl : r = r' := hr
  obtain rfl : k = k' := hk
  refine (q_tile _ _ _ _ r k).trans ?_
  simp only [latq_apply, load_of x7 inb _ _ h hb]

/-- A stored tile of keys holds the head's rows. -/
theorem k_of (h : Fin 16) {b : ℕ} (inb) (hb : b = (h : ℕ) * 256) (x : S1x1x512x256.Idx) (r : Fin 512) (k : Fin 256) (hr : r = x 2) (hk : k = x 3) :
    k0_pay10 (k0_pay4 x1 x6) (k0_pay7 x3 x4 x2) (View.ld x8 (Rect.unit ![0, 0, b] ![1, 512, 256] inb)) x = kAt x1 x2 x3 x4 x6 x8 h r k := by
  obtain ⟨r', k', rfl⟩ : ∃ (r' : Fin 512) (k' : Fin 256), x = ix4 (0 : Fin 1) (0 : Fin 1) r' k' :=
    ⟨x 2, x 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  obtain rfl : r = r' := hr
  obtain rfl : k = k' := hk
  refine (k_tile _ _ _ r k).trans ?_
  simp only [latkv_apply, shared_apply, load_of x8 inb _ _ h hb]

/-- A stored tile of values holds the head's rows. -/
theorem v_of (h : Fin 16) {b : ℕ} (inb) (hb : b = (h : ℕ) * 256) (x : S1x1x512x128.Idx) (r : Fin 512) (k : Fin 128) (hr : r = x 2) (hk : k = x 3) :
    k0_pay11 (k0_pay4 x1 x6) (View.ld x8 (Rect.unit ![0, 0, b] ![1, 512, 256] inb)) x = vAt x1 x6 x8 h r k := by
  obtain ⟨r', k', rfl⟩ : ∃ (r' : Fin 512) (k' : Fin 128), x = ix4 (0 : Fin 1) (0 : Fin 1) r' k' :=
    ⟨x 2, x 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  obtain rfl : r = r' := hr
  obtain rfl : k = k' := hk
  refine (v_tile _ _ r k).trans ?_
  simp only [latkv_apply, load_of x8 inb _ _ h hb]

end

/-- The block of queries, tile by tile. -/
theorem block_q (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x4096 .bf16) (harg9 : arg9.IsWhole) (arg10 : Memref sig .tc .vmem S1x512x4096 .bf16) (harg10 : arg10.IsWhole) (arg11 : Memref sig .tc .vmem S1x16x512x256 .bf16) (harg11 : arg11.IsWhole) (arg12 : Memref sig .tc .vmem S1x16x512x256 .bf16) (harg12 : arg12.IsWhole) (arg13 : Memref sig .tc .vmem S1x16x512x128 .bf16) (harg13 : arg13.IsWhole)
    (x0 : Vec Ideal S1x512x512 .bf16) (x1 : Vec Ideal S1x512x512 .bf16) (x2 : Vec Ideal S1x512x128 .bf16) (x3 : Vec Ideal S1x512x128 .f32) (x4 : Vec Ideal S1x512x128 .f32) (x5 : Vec Ideal S1x1x512 .f32) (x6 : Vec Ideal S1x1x512 .f32) (x7 : Vec Ideal S1x512x4096 .bf16) (x8 : Vec Ideal S1x512x4096 .bf16) (y : S1x16x512x256.Idx) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = qAt x0 x3 x4 x5 x7 (y 1) (y 2) (y 3) := by
  frame_out
  canon_tiles x h using View.cover_of_tiledBy _ ![1, 1, 512, 256] (by sl_kernel_rfl) y
  all_goals
    have e1 : (x 1 : ℕ) = 0 := Nat.lt_one_iff.mp (x 1).isLt
    exact q_of x0 x3 x4 x5 x7 (y 1) _ (by rw [h1, e1]) x (y 2) (y 3) (Fin.ext h2) (Fin.ext h3)

/-- The block of keys, tile by tile. -/
theorem block_k (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x4096 .bf16) (harg9 : arg9.IsWhole) (arg10 : Memref sig .tc .vmem S1x512x4096 .bf16) (harg10 : arg10.IsWhole) (arg11 : Memref sig .tc .vmem S1x16x512x256 .bf16) (harg11 : arg11.IsWhole) (arg12 : Memref sig .tc .vmem S1x16x512x256 .bf16) (harg12 : arg12.IsWhole) (arg13 : Memref sig .tc .vmem S1x16x512x128 .bf16) (harg13 : arg13.IsWhole)
    (x0 : Vec Ideal S1x512x512 .bf16) (x1 : Vec Ideal S1x512x512 .bf16) (x2 : Vec Ideal S1x512x128 .bf16) (x3 : Vec Ideal S1x512x128 .f32) (x4 : Vec Ideal S1x512x128 .f32) (x5 : Vec Ideal S1x1x512 .f32) (x6 : Vec Ideal S1x1x512 .f32) (x7 : Vec Ideal S1x512x4096 .bf16) (x8 : Vec Ideal S1x512x4096 .bf16) (y : S1x16x512x256.Idx) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = kAt x1 x2 x3 x4 x6 x8 (y 1) (y 2) (y 3) := by
  frame_out
  canon_tiles x h using View.cover_of_tiledBy _ ![1, 1, 512, 256] (by sl_kernel_rfl) y
  all_goals
    have e1 : (x 1 : ℕ) = 0 := Nat.lt_one_iff.mp (x 1).isLt
    exact k_of x1 x2 x3 x4 x6 x8 (y 1) _ (by rw [h1, e1]) x (y 2) (y 3) (Fin.ext h2) (Fin.ext h3)

/-- The block of values, tile by tile. -/
theorem block_v (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x4096 .bf16) (harg9 : arg9.IsWhole) (arg10 : Memref sig .tc .vmem S1x512x4096 .bf16) (harg10 : arg10.IsWhole) (arg11 : Memref sig .tc .vmem S1x16x512x256 .bf16) (harg11 : arg11.IsWhole) (arg12 : Memref sig .tc .vmem S1x16x512x256 .bf16) (harg12 : arg12.IsWhole) (arg13 : Memref sig .tc .vmem S1x16x512x128 .bf16) (harg13 : arg13.IsWhole)
    (x0 : Vec Ideal S1x512x512 .bf16) (x1 : Vec Ideal S1x512x512 .bf16) (x2 : Vec Ideal S1x512x128 .bf16) (x3 : Vec Ideal S1x512x128 .f32) (x4 : Vec Ideal S1x512x128 .f32) (x5 : Vec Ideal S1x1x512 .f32) (x6 : Vec Ideal S1x1x512 .f32) (x7 : Vec Ideal S1x512x4096 .bf16) (x8 : Vec Ideal S1x512x4096 .bf16) (y : S1x16x512x128.Idx) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = vAt x1 x6 x8 (y 1) (y 2) (y 3) := by
  frame_out
  canon_tiles x h using View.cover_of_tiledBy _ ![1, 1, 512, 128] (by sl_kernel_rfl) y
  all_goals
    have e1 : (x 1 : ℕ) = 0 := Nat.lt_one_iff.mp (x 1).isLt
    exact v_of x1 x6 x8 (y 1) _ (by rw [h1, e1]) x (y 2) (y 3) (Fin.ext h2) (Fin.ext h3)

end Cert.Kernel6Ideal.Qkv
-- ==== Proof.Qkv.Reference.lean ====
module

public import proofs.«01_k».proof.Proof.Layer.Rope
public import proofs.«01_k».proof.Proof.Gen.Reference6Ideal.Read

/-!
The reference's queries, keys and values over the extended reals, entry by entry.
-/

@[expose] public section

set_option maxRecDepth 16384

noncomputable section

namespace Cert.Reference6Ideal.Qkv

open Cert.Reference6Ideal Cert.Reference6Ideal.Read Idealize.ShloMosaic Idealize.ShloMosaic.TcCoe Idealize.SL.Sem
open Cert.Layer

variable (x0 : (⟨S4x4096x3200, .bf16⟩ : BufTy).Contents (Elt Ideal)) (x1 : (⟨S4x4096, .i32⟩ : BufTy).Contents (Elt Ideal)) (x2 : (⟨S2x512, .f32⟩ : BufTy).Contents (Elt Ideal)) (x3 : (⟨S2x512x3072, .f32⟩ : BufTy).Contents (Elt Ideal)) (x4 : (⟨S2x512, .f32⟩ : BufTy).Contents (Elt Ideal)) (x5 : (⟨S2x512x4096, .f32⟩ : BufTy).Contents (Elt Ideal))

/-- The cosines. -/
theorem cos_apply (b : Fin 4) (r : Fin 4096) (l : Fin 32) :
    val_main_v18 (F := Ideal) x1 (ix3 b r l) = Ideal.cos (angle (x1 (ix2 b r)) l) := by
  simp only [val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_cst_0, val_main_cst_1, val_main_cst_2, val_main_cst_3]
  pointwise
  rfl

/-- The sines. -/
theorem sin_apply (b : Fin 4) (r : Fin 4096) (l : Fin 32) :
    val_main_v19 (F := Ideal) x1 (ix3 b r l) = Ideal.sin (angle (x1 (ix2 b r)) l) := by
  simp only [val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v19, val_main_cst_0, val_main_cst_1, val_main_cst_2, val_main_cst_3]
  pointwise
  rfl

/-- The normalised latent of the queries. -/
theorem latq_apply (b : Fin 4) (r : Fin 4096) (k : Fin 512) :
    val_main_v37 (F := Ideal) x0 x2 (ix3 b r k) = latent (fun l => x0 (ix3 b r ⟨2048 + l, by omega⟩)) (fun l => x2 (ix2 1 l)) k := by
  simp only [val_main_v0, val_main_v20, val_main_v23, val_main_v24, val_main_v25, val_main_v26, val_main_v27, val_main_v28, val_main_v29, val_main_v30, val_main_v31, val_main_v32, val_main_v33, val_main_v34, val_main_v35, val_main_v36, val_main_v37, val_main_cst_4, val_main_cst_5, val_main_cst_6]
  pointwise
  rfl

/-- The normalised latent of the keys and values. -/
theorem latkv_apply (b : Fin 4) (r : Fin 4096) (k : Fin 512) :
    val_main_v58 (F := Ideal) x0 x4 (ix3 b r k) = latent (fun l => x0 (ix3 b r ⟨2560 + l, by omega⟩)) (fun l => x4 (ix2 1 l)) k := by
  simp only [val_main_v0, val_main_v21, val_main_v44, val_main_v45, val_main_v46, val_main_v47, val_main_v48, val_main_v49, val_main_v50, val_main_v51, val_main_v52, val_main_v53, val_main_v54, val_main_v55, val_main_v56, val_main_v57, val_main_v58, val_main_cst_8, val_main_cst_9, val_main_cst_10]
  pointwise
  rfl

/-- A head's scaled product of the normalised latent. -/
theorem q0_apply (b : Fin 4) (r : Fin 4096) (h : Fin 16) (d : Fin 192) :
    val_main_v43 (F := Ideal) x0 x2 x3 (ix4 b r h d) = prod (latent (fun l => x0 (ix3 b r ⟨2048 + l, by omega⟩)) (fun l => x2 (ix2 1 l))) (fun (k : Fin 512) (d : Fin 192) => x3 (ix3 1 k ⟨h * 192 + d, by omega⟩)) d * qScale := by
  simp only [val_main_v38, val_main_v39, val_main_v40, val_main_v41, val_main_v42, val_main_v43, val_main_cst_7]
  pointwise
  simp only [latq_apply]
  rfl

/-- A head's product of the normalised latent, for keys and values. -/
theorem kv0_apply (b : Fin 4) (r : Fin 4096) (h : Fin 16) (d : Fin 256) :
    val_main_v62 (F := Ideal) x0 x4 x5 (ix4 b r h d) = prod (latent (fun l => x0 (ix3 b r ⟨2560 + l, by omega⟩)) (fun l => x4 (ix2 1 l))) (fun (k : Fin 512) (d : Fin 256) => x5 (ix3 1 k ⟨h * 256 + d, by omega⟩)) d := by
  simp only [val_main_v59, val_main_v60, val_main_v61, val_main_v62]
  pointwise
  simp only [latkv_apply]
  rfl

/-- The embedded lanes of a query. -/
theorem qrope_apply (b : Fin 4) (r : Fin 4096) (h : Fin 16) (q : Fin 64) :
    val_main_v78 (F := Ideal) x0 x1 x2 x3 (ix4 b r h q) = rope (fun l => prod (latent (fun l => x0 (ix3 b r ⟨2048 + l, by omega⟩)) (fun l => x2 (ix2 1 l))) (fun (k : Fin 512) (d : Fin 192) => x3 (ix3 1 k ⟨h * 192 + d, by omega⟩)) ⟨128 + l, by omega⟩ * qScale) (fun l => Ideal.cos (angle (x1 (ix2 b r)) l)) (fun l => Ideal.sin (angle (x1 (ix2 b r)) l)) q := by
  simp only [val_main_v63, val_main_v64, val_main_v65, val_main_v66, val_main_v67, val_main_v68, val_main_v69, val_main_v70, val_main_v71, val_main_v72, val_main_v73, val_main_v74, val_main_v75, val_main_v76, val_main_v77, val_main_v78]
  pointwise
  simp only [q0_apply, cos_apply, sin_apply]
  rfl

/-- The embedded lanes of a key. -/
theorem krope_apply (b : Fin 4) (r : Fin 4096) (q : Fin 64) :
    val_main_v87 (F := Ideal) x0 x1 (ix3 b r q) = rope (fun l => x0 (ix3 b r ⟨3072 + l, by omega⟩)) (fun l => Ideal.cos (angle (x1 (ix2 b r)) l)) (fun l => Ideal.sin (angle (x1 (ix2 b r)) l)) q := by
  simp only [val_main_v0, val_main_v22, val_main_v79, val_main_v80, val_main_v81, val_main_v82, val_main_v83, val_main_v84, val_main_v85, val_main_v86, val_main_v87]
  pointwise
  simp only [cos_apply, sin_apply]
  rfl

/-- One entry of the queries. -/
theorem q_apply (b : Fin 4) (h : Fin 16) (r : Fin 4096) (k : Fin 256) :
    val_main_v96 (F := Ideal) x0 x1 x2 x3 (ix4 b h r k) = qEntry (latent (fun l => x0 (ix3 b r ⟨2048 + l, by omega⟩)) (fun l => x2 (ix2 1 l))) (fun l => Ideal.cos (angle (x1 (ix2 b r)) l)) (fun l => Ideal.sin (angle (x1 (ix2 b r)) l)) (fun (k : Fin 512) (d : Fin 192) => x3 (ix3 1 k ⟨h * 192 + d, by omega⟩)) k := by
  simp only [val_main_v90, val_main_v91, val_main_v92, val_main_v95, val_main_v96, val_main_cst_11]
  pointwise
  simp only [q0_apply, qrope_apply]
  rfl

/-- One entry of the keys. -/
theorem k_apply (b : Fin 4) (h : Fin 16) (r : Fin 4096) (k : Fin 256) :
    val_main_v98 (F := Ideal) x0 x1 x4 x5 (ix4 b h r k) = kEntry (latent (fun l => x0 (ix3 b r ⟨2560 + l, by omega⟩)) (fun l => x4 (ix2 1 l))) (fun l => x0 (ix3 b r ⟨3072 + l, by omega⟩)) (fun l => Ideal.cos (angle (x1 (ix2 b r)) l)) (fun l => Ideal.sin (angle (x1 (ix2 b r)) l)) (fun (k : Fin 512) (d : Fin 256) => x5 (ix3 1 k ⟨h * 256 + d, by omega⟩)) k := by
  simp only [val_main_v88, val_main_v89, val_main_v90, val_main_v93, val_main_v94, val_main_v97, val_main_v98, val_main_cst_11]
  pointwise
  simp only [kv0_apply, krope_apply]
  rfl

/-- One entry of the values. -/
theorem v_apply (b : Fin 4) (h : Fin 16) (r : Fin 4096) (k : Fin 128) :
    val_main_v101 (F := Ideal) x0 x4 x5 (ix4 b h r k) = prod (latent (fun l => x0 (ix3 b r ⟨2560 + l, by omega⟩)) (fun l => x4 (ix2 1 l))) (fun (k : Fin 512) (d : Fin 256) => x5 (ix3 1 k ⟨h * 256 + d, by omega⟩)) ⟨128 + k, by omega⟩ := by
  simp only [val_main_v99, val_main_v100, val_main_v101]
  pointwise
  simp only [kv0_apply]

end Cert.Reference6Ideal.Qkv
-- ==== Proof.Qkv.Rows.lean ====
module

public import proofs.«01_k».proof.Proof.Qkv.Block
public import proofs.«01_k».proof.Proof.Qkv.Reference

/-!
Rows of queries, keys and values that a grid point computes from blocks of the prepared arrays are the reference's rows.
-/

@[expose] public section

set_option maxRecDepth 16384

noncomputable section

namespace Cert.Kernel6Ideal.Qkv

open Cert.Kernel6Ideal Cert.Kernel6Ideal.Gen Idealize.ShloMosaic Idealize.ShloMosaic.TcCoe Idealize.SL.Sem
open Cert.Layer

/-- Equal latents and norm weights, equal rows. -/
theorem latent_congr {x x' g g' : Fin 512 → EReal} (hx : ∀ l, x l = x' l) (hg : ∀ l, g l = g' l) : latent x g = latent x' g' := by
  rw [funext hx, funext hg]

variable (x0 : (⟨Reference6Ideal.S4x4096x3200, .bf16⟩ : BufTy).Contents (Elt Ideal)) (x1 : (⟨Reference6Ideal.S4x4096, .i32⟩ : BufTy).Contents (Elt Ideal)) (x2 : (⟨Reference6Ideal.S2x512, .f32⟩ : BufTy).Contents (Elt Ideal)) (x3 : (⟨Reference6Ideal.S2x512x3072, .f32⟩ : BufTy).Contents (Elt Ideal)) (x4 : (⟨Reference6Ideal.S2x512, .f32⟩ : BufTy).Contents (Elt Ideal)) (x5 : (⟨Reference6Ideal.S2x512x4096, .f32⟩ : BufTy).Contents (Elt Ideal))
variable (v0 v1 : Vec Ideal S1x512x512 .bf16) (v2 : Vec Ideal S1x512x128 .bf16) (v3 v4 : Vec Ideal S1x512x128 .f32) (v5 v6 : Vec Ideal S1x1x512 .f32) (v7 v8 : Vec Ideal S1x512x4096 .bf16)
  (b : Fin 4) (R : Fin 4096) (r : Fin 512) (h : Fin 16)

/-- A row of a head's queries. -/
theorem q_rows (h0 : ∀ l : Fin 512, v0 (ix3 0 r l) = x0 (ix3 b R ⟨2048 + l, by omega⟩))
    (h3 : ∀ l : Fin 128, v3 (ix3 0 r l) = table (fun l => Ideal.cos (angle (x1 (ix2 b R)) l)) (fun l => Ideal.cos (angle (x1 (ix2 b R)) l)) l)
    (h4 : ∀ l : Fin 128, v4 (ix3 0 r l) = table (fun l => -Ideal.sin (angle (x1 (ix2 b R)) l)) (fun l => Ideal.sin (angle (x1 (ix2 b R)) l)) l)
    (h5 : ∀ l : Fin 512, v5 (ix3 0 0 l) = x2 (ix2 1 l))
    (h7 : ∀ (k : Fin 512) (l : Fin 192), v7 (ix3 0 k ⟨h * 256 + l, by omega⟩) = x3 (ix3 1 k ⟨h * 192 + l, by omega⟩)) (k : Fin 256) :
    qAt v0 v3 v4 v5 v7 h r k = Reference6Ideal.Read.val_main_v96 (F := Ideal) x0 x1 x2 x3 (ix4 b h R k) := by
  rw [Reference6Ideal.Qkv.q_apply, ← qTile_eq _ _ _ (fun (o : Fin 512) (l : Fin 256) => v7 (ix3 0 o ⟨h * 256 + l, by omega⟩)) _ h7 k]
  unfold qAt
  rw [latent_congr h0 h5, funext h3, funext h4]

/-- A row of a head's keys. -/
theorem k_rows (h1 : ∀ l : Fin 512, v1 (ix3 0 r l) = x0 (ix3 b R ⟨2560 + l, by omega⟩))
    (h2 : ∀ l : Fin 128, v2 (ix3 0 r l) = x0 (ix3 b R ⟨3072 + l, by omega⟩))
    (h3 : ∀ l : Fin 128, v3 (ix3 0 r l) = table (fun l => Ideal.cos (angle (x1 (ix2 b R)) l)) (fun l => Ideal.cos (angle (x1 (ix2 b R)) l)) l)
    (h4 : ∀ l : Fin 128, v4 (ix3 0 r l) = table (fun l => -Ideal.sin (angle (x1 (ix2 b R)) l)) (fun l => Ideal.sin (angle (x1 (ix2 b R)) l)) l)
    (h6 : ∀ l : Fin 512, v6 (ix3 0 0 l) = x4 (ix2 1 l))
    (h8 : ∀ (k : Fin 512) (l : Fin 4096), v8 (ix3 0 k l) = x5 (ix3 1 k l)) (k : Fin 256) :
    kAt v1 v2 v3 v4 v6 v8 h r k = Reference6Ideal.Read.val_main_v98 (F := Ideal) x0 x1 x4 x5 (ix4 b h R k) := by
  rw [Reference6Ideal.Qkv.k_apply]
  unfold kAt
  rw [latent_congr h1 h6, funext h2, funext h3, funext h4, kTile_eq]
  exact congrArg (fun w => kEntry _ _ _ _ w k) (funext fun o => funext fun l => h8 o _)

/-- A row of a head's values. -/
theorem v_rows (h1 : ∀ l : Fin 512, v1 (ix3 0 r l) = x0 (ix3 b R ⟨2560 + l, by omega⟩))
    (h6 : ∀ l : Fin 512, v6 (ix3 0 0 l) = x4 (ix2 1 l))
    (h8 : ∀ (k : Fin 512) (l : Fin 4096), v8 (ix3 0 k l) = x5 (ix3 1 k l)) (k : Fin 128) :
    vAt v1 v6 v8 h r k = Reference6Ideal.Read.val_main_v101 (F := Ideal) x0 x4 x5 (ix4 b h R k) := by
  rw [Reference6Ideal.Qkv.v_apply]
  unfold vAt
  rw [latent_congr h1 h6]
  exact congrArg (fun w => prod _ w (⟨128 + k, by omega⟩ : Fin 256)) (funext fun o => funext fun l => h8 o _)

end Cert.Kernel6Ideal.Qkv
-- ==== Proof.Qkv.Entry.lean ====
module

public import proofs.«01_k».proof.Proof.Layer.Rope
public import proofs.«01_k».proof.Proof.Gen.Kernel6Ideal.Value

/-!
The arrays that the host prepares for the query, key and value call, entry by entry: the tables of cosines and sines, the
query weights with 64 columns of padding after every head's 192, the norms' weights.
-/

@[expose] public section

set_option maxRecDepth 16384

noncomputable section

namespace Cert.Kernel6Ideal.Qkv

open Cert.Kernel6Ideal Cert.Kernel6Ideal.Gen Idealize.ShloMosaic Idealize.ShloMosaic.TcCoe Idealize.SL.Sem
open Cert.Layer

/-- The buffers after the host's operations, from what they hold before. -/
abbrev entry (F : Valuation τ sig (Elt Ideal)) : Valuation τ sig (Elt Ideal) :=
  StableHlo.after (List.flatten [hostOps0, hostOps0_1, hostOps0_2]) F

/-- The angles that the host computes from the positions. -/
def angles (x : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 x)))
    (broadcastInDim S4x4096x32 ![0, 1, 2] bcast_S1x1x32_S4x4096x32_0_1_2 (broadcastInDim S1x1x32 ![2] bcast_S32_S1x1x32_2
      (Host.divf (broadcastInDim S32 ![] bcast_S_S32 (constant (F := Ideal) S_ .f32 0x3F800000#32))
        (Host.powf (broadcastInDim S32 ![] bcast_S_S32 (constant (F := Ideal) S_ .f32 0x461C4000#32))
          (Host.divf (addf (broadcastInDim S32 ![] bcast_S_S32 (constant (F := Ideal) S_ .f32 0x00000000#32))
            (mulf (broadcastInDim S32 ![] bcast_S_S32 (constant (F := Ideal) S_ .f32 0x40000000#32)) (sitofp .f32 (iotaInDim S32 32 0))))
            (broadcastInDim S32 ![] bcast_S_S32 (constant (F := Ideal) S_ .f32 0x42800000#32)))))))

/-- The zeros after the tables' parts. -/
def zeros : FVec Ideal S4x4096x32 .f32 :=
  broadcastInDim S4x4096x32 ![] bcast_S_S4x4096x32 (constant (F := Ideal) S_ .f32 0x00000000#32)

/-- Two parts of 32 lanes and 64 lanes of zeros, side by side. -/
def parts (x y : FVec Ideal S4x4096x32 .f32) : FVec Ideal S4x4096x128 .f32 :=
  concatenate S4x4096x128 2 [⟨S4x4096x32, x⟩, ⟨S4x4096x32, y⟩, ⟨S4x4096x32, zeros⟩, ⟨S4x4096x32, zeros⟩] concatenates_S4x4096x32_S4x4096x32_S4x4096x32_S4x4096x32_S4x4096x128_d2

/-- The query weights with every head's columns padded to 256. -/
def padded (w : FVec Ideal S2x512x3072 .f32) : FVec Ideal S2x512x4096 .bf16 :=
  truncf .bf16 (shapeCast S2x512x4096 (pad S2x512x16x256 ![0, 0, 0, 0] ![0, 0, 0, 64] ![0, 0, 0, 0] (shapeCast S2x512x16x192 w shapeCasts_S2x512x3072_S2x512x16x192 : FVec Ideal S2x512x16x192 .f32)
    (sitofp .f32 (constantI S_ 32 0#32)) pads_S2x512x16x192_S2x512x16x256_000_000_000_0640 h_S_) shapeCasts_S2x512x16x256_S2x512x4096 : FVec Ideal S2x512x4096 .f32) bitsLt_bf16_f32

/-- What the host writes as the table of cosines. -/
theorem cos_read (F : Valuation τ sig (Elt Ideal)) : entry F main_v20 = parts (Host.cos (angles (F main_arg1))) (Host.cos (angles (F main_arg1))) := rfl

/-- What the host writes as the table of sines. -/
theorem sin_read (F : Valuation τ sig (Elt Ideal)) : entry F main_v22 = parts (Host.negf (Host.sin (angles (F main_arg1)))) (Host.sin (angles (F main_arg1))) := rfl

/-- The last operations put the padded weights' heads side by side. -/
theorem wq_last (G : Valuation τ sig (Elt Ideal)) :
    StableHlo.after hostOps0_2 G main_v26 = (truncf .bf16 (shapeCast S2x512x4096 (G main_v24 : FVec Ideal S2x512x16x256 .f32) shapeCasts_S2x512x16x256_S2x512x4096 : FVec Ideal S2x512x4096 .f32) bitsLt_bf16_f32 : FVec Ideal S2x512x4096 .bf16) := rfl

/-- The padding of the weights. -/
theorem wq_pad (G : Valuation τ sig (Elt Ideal)) :
    StableHlo.after hostOps0_1 G main_v24 = (pad S2x512x16x256 ![0, 0, 0, 0] ![0, 0, 0, 64] ![0, 0, 0, 0] (G main_v23 : FVec Ideal S2x512x16x192 .f32)
      (sitofp (F := Ideal) .f32 (G main_c : IVec S_ 32)) pads_S2x512x16x192_S2x512x16x256_000_000_000_0640 h_S_ : FVec Ideal S2x512x16x256 .f32) := rfl

/-- The weights by head. -/
theorem wq_heads (F : Valuation τ sig (Elt Ideal)) :
    StableHlo.after hostOps0 F main_v23 = (shapeCast S2x512x16x192 (F main_arg3 : FVec Ideal S2x512x3072 .f32) shapeCasts_S2x512x3072_S2x512x16x192 : FVec Ideal S2x512x16x192 .f32) := rfl

/-- The padding value, as an integer. -/
theorem wq_zero (F : Valuation τ sig (Elt Ideal)) : StableHlo.after hostOps0 F main_c = (constantI S_ 32 0#32 : IVec S_ 32) := rfl

/-- The host's operations, one stretch after another. -/
theorem entry_eq (F : Valuation τ sig (Elt Ideal)) : entry F = StableHlo.after hostOps0_2 (StableHlo.after hostOps0_1 (StableHlo.after hostOps0 F)) := rfl

/-- What the host writes as the query weights. -/
theorem wq_read (F : Valuation τ sig (Elt Ideal)) : entry F main_v26 = padded (F main_arg3) := by
  refine (congrFun (entry_eq F) _).trans ((wq_last _).trans ?_)
  rw [wq_pad, wq_heads, wq_zero]
  rfl

/-- What the host writes as the key and value weights. -/
theorem wkv_read (F : Valuation τ sig (Elt Ideal)) : entry F main_v27 = (truncf .bf16 (F main_arg5 : FVec Ideal S2x512x4096 .f32) bitsLt_bf16_f32 : FVec Ideal S2x512x4096 .bf16) := rfl

/-- What the host writes as the queries' norm weights. -/
theorem gq_read (F : Valuation τ sig (Elt Ideal)) : entry F main_v28 = (shapeCast S2x1x512 (F main_arg2 : FVec Ideal S2x512 .f32) shapeCasts_S2x512_S2x1x512 : FVec Ideal S2x1x512 .f32) := rfl

/-- What the host writes as the keys' and values' norm weights. -/
theorem gkv_read (F : Valuation τ sig (Elt Ideal)) : entry F main_v29 = (shapeCast S2x1x512 (F main_arg4 : FVec Ideal S2x512 .f32) shapeCasts_S2x512_S2x1x512 : FVec Ideal S2x1x512 .f32) := rfl

/-- The host's angles are the layer's. -/
theorem angles_apply (x : IVec S4x4096 32) (b : Fin 4) (r : Fin 4096) (l : Fin 32) :
    angles x (ix3 b r l) = angle (x (ix2 b r)) l := by
  unfold angles
  pointwise
  rfl

/-- The parts side by side, at an entry. -/
theorem parts_apply (x y : FVec Ideal S4x4096x32 .f32) (b : Fin 4) (r : Fin 4096) (k : Fin 128) :
    parts x y (ix3 b r k) = table (fun l => x (ix3 b r l)) (fun l => y (ix3 b r l)) k := by
  unfold parts zeros table
  pointwise
  by_cases h1 : (k : ℕ) < 32
  · simp only [dif_pos h1]
  · by_cases h2 : (k : ℕ) < 64
    · simp only [dif_neg h1, dif_pos h2, dif_pos (show (k : ℕ) - 32 < 32 by omega)]
    · simp only [dif_neg h1, dif_neg h2, dif_neg (show ¬ (k : ℕ) - 32 < 32 by omega)]
      exact ite_self _

/-- The padded query weights at one of a head's 192 columns. -/
theorem padded_apply (w : FVec Ideal S2x512x3072 .f32) (k : Fin 512) (h : Fin 16) (l : Fin 192) :
    padded w (ix3 1 k ⟨h * 256 + l, by omega⟩) = w (ix3 1 k ⟨h * 192 + l, by omega⟩) := by
  unfold padded
  pointwise
  have e : ((h : ℕ) * 256 + l) % 256 = l := by omega
  simp only [e, dif_pos l.isLt]

variable (m : (ℓ : Loc nD τ sig) → Buf (Elt Ideal) ℓ)

/-- The table of cosines as the call finds it. -/
theorem cos_entry (c : Dev nD) (b : Fin 4) (r : Fin 4096) (k : Fin 128) :
    V m c main_v20 (ix3 b r k) = table (fun l => Ideal.cos (angle (m ((c.tc : Thread nD τ).loc main_arg1) (ix2 b r)) l)) (fun l => Ideal.cos (angle (m ((c.tc : Thread nD τ).loc main_arg1) (ix2 b r)) l)) k := by
  have e : ∀ (x : IVec S4x4096 32) (l : Fin 32), Host.cos (angles x) (ix3 b r l) = Ideal.cos (angle (x (ix2 b r)) l) := fun x l => congrArg Ideal.cos (angles_apply x b r l)
  refine ((congrFun (cos_read fun b => m (c, b)) (ix3 b r k)).trans (parts_apply _ _ b r k)).trans ?_
  simp only [e]

/-- The table of sines as the call finds it. -/
theorem sin_entry (c : Dev nD) (b : Fin 4) (r : Fin 4096) (k : Fin 128) :
    V m c main_v22 (ix3 b r k) = table (fun l => -Ideal.sin (angle (m ((c.tc : Thread nD τ).loc main_arg1) (ix2 b r)) l)) (fun l => Ideal.sin (angle (m ((c.tc : Thread nD τ).loc main_arg1) (ix2 b r)) l)) k := by
  have e : ∀ (x : IVec S4x4096 32) (l : Fin 32), Host.sin (angles x) (ix3 b r l) = Ideal.sin (angle (x (ix2 b r)) l) := fun x l => congrArg Ideal.sin (angles_apply x b r l)
  have e' : ∀ (x : IVec S4x4096 32) (l : Fin 32), Host.negf (Host.sin (angles x)) (ix3 b r l) = -Ideal.sin (angle (x (ix2 b r)) l) := fun x l => congrArg (fun y => -y) (e x l)
  refine ((congrFun (sin_read fun b => m (c, b)) (ix3 b r k)).trans (parts_apply _ _ b r k)).trans ?_
  simp only [e, e']

/-- The query weights as the call finds them, at one of a head's 192 columns. -/
theorem wq_entry (c : Dev nD) (k : Fin 512) (h : Fin 16) (l : Fin 192) :
    V m c main_v26 (ix3 1 k ⟨h * 256 + l, by omega⟩) = m ((c.tc : Thread nD τ).loc main_arg3) (ix3 1 k ⟨h * 192 + l, by omega⟩) :=
  (congrFun (wq_read fun b => m (c, b)) _).trans (padded_apply _ k h l)

/-- The key and value weights as the call finds them. -/
theorem wkv_entry (c : Dev nD) (k : Fin 512) (l : Fin 4096) :
    V m c main_v27 (ix3 1 k l) = m ((c.tc : Thread nD τ).loc main_arg5) (ix3 1 k l) :=
  congrFun (wkv_read fun b => m (c, b)) _

/-- The queries' norm weights as the call finds them. -/
theorem gq_entry (c : Dev nD) (l : Fin 512) : V m c main_v28 (ix3 1 0 l) = m ((c.tc : Thread nD τ).loc main_arg2) (ix2 1 l) := by
  refine (congrFun (gq_read fun b => m (c, b)) _).trans ?_
  pointwise

/-- The keys' and values' norm weights as the call finds them. -/
theorem gkv_entry (c : Dev nD) (l : Fin 512) : V m c main_v29 (ix3 1 0 l) = m ((c.tc : Thread nD τ).loc main_arg4) (ix2 1 l) := by
  refine (congrFun (gkv_read fun b => m (c, b)) _).trans ?_
  pointwise

end Cert.Kernel6Ideal.Qkv
-- ==== Proof.Qkv.Windows.lean ====
module

public import proofs.«01_k».proof.Proof.Qkv.Entry

/-!
The blocks that a grid point of the query, key and value call finds, in terms of the launched arrays.
-/

@[expose] public section

set_option maxRecDepth 16384

noncomputable section

namespace Cert.Kernel6Ideal.Qkv

open Cert.Kernel6Ideal Cert.Kernel6Ideal.Gen Idealize.ShloMosaic Idealize.ShloMosaic.TcCoe Idealize.SL.Sem
open Cert.Layer

/-! The windows' index maps at every grid point. -/

theorem idx_cq : ∀ t : Fin grid0.N, win0_0.index t = ![(grid0.coords t 0 : ℕ), (grid0.coords t 1 : ℕ), 4] := by
  decide +kernel
theorem idx_ckv : ∀ t : Fin grid0.N, win0_1.index t = ![(grid0.coords t 0 : ℕ), (grid0.coords t 1 : ℕ), 5] := by
  decide +kernel
theorem idx_pe : ∀ t : Fin grid0.N, win0_2.index t = ![(grid0.coords t 0 : ℕ), (grid0.coords t 1 : ℕ), 24] := by
  decide +kernel
theorem idx_cos : ∀ t : Fin grid0.N, win0_3.index t = ![(grid0.coords t 0 : ℕ), (grid0.coords t 1 : ℕ), 0] := by
  decide +kernel
theorem idx_sin : ∀ t : Fin grid0.N, win0_4.index t = ![(grid0.coords t 0 : ℕ), (grid0.coords t 1 : ℕ), 0] := by
  decide +kernel
theorem idx_gq : ∀ t : Fin grid0.N, win0_5.index t = ![1, 0, 0] := by
  decide +kernel
theorem idx_gkv : ∀ t : Fin grid0.N, win0_6.index t = ![1, 0, 0] := by
  decide +kernel
theorem idx_wq : ∀ t : Fin grid0.N, win0_7.index t = ![1, 0, 0] := by
  decide +kernel
theorem idx_wkv : ∀ t : Fin grid0.N, win0_8.index t = ![1, 0, 0] := by
  decide +kernel

section
variable (t : Fin cfg0.N) (b : Fin 4) (R : Fin 4096) (r : Fin 512)

/-! What a window's block holds, for any array. -/

theorem read_pe (y : FVec Ideal S4x4096x3200 .bf16) (hb : (b : ℕ) = grid0.coords t 0) (hR : (R : ℕ) = grid0.coords t 1 * 512 + r) (l : Fin 128) :
    ((cfg0.win 2).blk t).view.read (Elt Ideal) y (ix3 0 r l) = y (ix3 b R ⟨3072 + l, by omega⟩) := by
  blk_ext [idx_pe t]
theorem read_cos (y : FVec Ideal S4x4096x128 .f32) (hb : (b : ℕ) = grid0.coords t 0) (hR : (R : ℕ) = grid0.coords t 1 * 512 + r) (l : Fin 128) :
    ((cfg0.win 3).blk t).view.read (Elt Ideal) y (ix3 0 r l) = y (ix3 b R l) := by
  blk_ext [idx_cos t]
theorem read_sin (y : FVec Ideal S4x4096x128 .f32) (hb : (b : ℕ) = grid0.coords t 0) (hR : (R : ℕ) = grid0.coords t 1 * 512 + r) (l : Fin 128) :
    ((cfg0.win 4).blk t).view.read (Elt Ideal) y (ix3 0 r l) = y (ix3 b R l) := by
  blk_ext [idx_sin t]
theorem read_gq (y : FVec Ideal S2x1x512 .f32) (l : Fin 512) :
    ((cfg0.win 5).blk t).view.read (Elt Ideal) y (ix3 0 0 l) = y (ix3 1 0 l) := by
  blk_ext [idx_gq t]
theorem read_gkv (y : FVec Ideal S2x1x512 .f32) (l : Fin 512) :
    ((cfg0.win 6).blk t).view.read (Elt Ideal) y (ix3 0 0 l) = y (ix3 1 0 l) := by
  blk_ext [idx_gkv t]
theorem read_wq (y : FVec Ideal S2x512x4096 .bf16) (k : Fin 512) (l : Fin 4096) :
    ((cfg0.win 7).blk t).view.read (Elt Ideal) y (ix3 0 k l) = y (ix3 1 k l) := by
  blk_ext [idx_wq t]
theorem read_wkv (y : FVec Ideal S2x512x4096 .bf16) (k : Fin 512) (l : Fin 4096) :
    ((cfg0.win 8).blk t).view.read (Elt Ideal) y (ix3 0 k l) = y (ix3 1 k l) := by
  blk_ext [idx_wkv t]

variable (m : (ℓ : Loc nD τ sig) → Buf (Elt Ideal) ℓ) (c : Dev nD)

/-! The blocks as a grid point finds them. -/

theorem cq_block (hb : (b : ℕ) = grid0.coords t 0) (hR : (R : ℕ) = grid0.coords t 1 * 512 + r) (l : Fin 512) :
    X0_0 m c t (ix3 0 r l) = m ((c.tc : Thread nD τ).loc main_arg0) (ix3 b R ⟨2048 + l, by omega⟩) := by
  refine Eq.trans ?_ (congrFun (V_main_arg0 m c) _)
  unfold X0_0 Pipeline.Window.fill
  rw [dif_pos (moved0_0 t _)]
  unfold iblk
  generalize V m c (Pipeline.arrRef spec0 0) = y
  blk_ext [idx_cq t]
theorem ckv_block (hb : (b : ℕ) = grid0.coords t 0) (hR : (R : ℕ) = grid0.coords t 1 * 512 + r) (l : Fin 512) :
    X0_1 m c t (ix3 0 r l) = m ((c.tc : Thread nD τ).loc main_arg0) (ix3 b R ⟨2560 + l, by omega⟩) := by
  refine Eq.trans ?_ (congrFun (V_main_arg0 m c) _)
  unfold X0_1 Pipeline.Window.fill
  rw [dif_pos (moved0_1 t _)]
  unfold iblk
  generalize V m c (Pipeline.arrRef spec0 1) = y
  blk_ext [idx_ckv t]
theorem pe_block (hb : (b : ℕ) = grid0.coords t 0) (hR : (R : ℕ) = grid0.coords t 1 * 512 + r) (l : Fin 128) : iblk m c 2 t (ix3 0 r l) = m ((c.tc : Thread nD τ).loc main_arg0) (ix3 b R ⟨3072 + l, by omega⟩) :=
  (read_pe t b R r (V m c main_arg0) hb hR l).trans (congrFun (V_main_arg0 m c) _)
theorem cos_block (hb : (b : ℕ) = grid0.coords t 0) (hR : (R : ℕ) = grid0.coords t 1 * 512 + r) (k : Fin 128) : iblk m c 3 t (ix3 0 r k) = table (fun l => Ideal.cos (angle (m ((c.tc : Thread nD τ).loc main_arg1) (ix2 b R)) l)) (fun l => Ideal.cos (angle (m ((c.tc : Thread nD τ).loc main_arg1) (ix2 b R)) l)) k :=
  (read_cos t b R r (V m c main_v20) hb hR k).trans (cos_entry m c b R k)
theorem sin_block (hb : (b : ℕ) = grid0.coords t 0) (hR : (R : ℕ) = grid0.coords t 1 * 512 + r) (k : Fin 128) : iblk m c 4 t (ix3 0 r k) = table (fun l => -Ideal.sin (angle (m ((c.tc : Thread nD τ).loc main_arg1) (ix2 b R)) l)) (fun l => Ideal.sin (angle (m ((c.tc : Thread nD τ).loc main_arg1) (ix2 b R)) l)) k :=
  (read_sin t b R r (V m c main_v22) hb hR k).trans (sin_entry m c b R k)
theorem gq_block (l : Fin 512) : iblk m c 5 t (ix3 0 0 l) = m ((c.tc : Thread nD τ).loc main_arg2) (ix2 1 l) :=
  (read_gq t (V m c main_v28) l).trans (gq_entry m c l)
theorem gkv_block (l : Fin 512) : iblk m c 6 t (ix3 0 0 l) = m ((c.tc : Thread nD τ).loc main_arg4) (ix2 1 l) :=
  (read_gkv t (V m c main_v29) l).trans (gkv_entry m c l)
theorem wq_block (k : Fin 512) (h : Fin 16) (l : Fin 192) : iblk m c 7 t (ix3 0 k ⟨h * 256 + l, by omega⟩) = m ((c.tc : Thread nD τ).loc main_arg3) (ix3 1 k ⟨h * 192 + l, by omega⟩) :=
  (read_wq t (V m c main_v26) k _).trans (wq_entry m c k h l)
theorem wkv_block (k : Fin 512) (l : Fin 4096) : iblk m c 8 t (ix3 0 k l) = m ((c.tc : Thread nD τ).loc main_arg5) (ix3 1 k l) :=
  (read_wkv t (V m c main_v27) k l).trans (wkv_entry m c k l)

end

end Cert.Kernel6Ideal.Qkv
-- ==== Proof.Qkv.Claim.lean ====
module

public import proofs.«01_k».proof.Proof.Qkv.Rows
public import proofs.«01_k».proof.Proof.Qkv.Windows

/-!
The query, key and value call over the extended reals: its three result arrays are the reference's, index by index.
-/

@[expose] public section

set_option maxRecDepth 16384

noncomputable section

namespace Cert.Kernel6Ideal.Qkv

open Cert.Kernel6Ideal Cert.Kernel6Ideal.Gen Idealize.ShloMosaic Idealize.ShloMosaic.TcCoe Idealize.SL.Sem
open Cert.Layer

/-! The results' windows' index maps at every grid point. -/

theorem idx_q : ∀ t : Fin grid0.N, win0_9.index t = ![(grid0.coords t 0 : ℕ), 0, (grid0.coords t 1 : ℕ), 0] := by
  decide +kernel
theorem idx_k : ∀ t : Fin grid0.N, win0_10.index t = ![(grid0.coords t 0 : ℕ), 0, (grid0.coords t 1 : ℕ), 0] := by
  decide +kernel
theorem idx_v : ∀ t : Fin grid0.N, win0_11.index t = ![(grid0.coords t 0 : ℕ), 0, (grid0.coords t 1 : ℕ), 0] := by
  decide +kernel

variable (m : (ℓ : Loc nD τ sig) → Buf (Elt Ideal) ℓ) (c : Dev nD)

/-- The array of queries after the last grid point is the reference's. -/
theorem array_eq_q :
    (dats m 0 c).arrAt 9 cfg0.N = Cert.Reference6Ideal.Read.val_main_v96 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after0_9]
  unfold outsAt0
  dsimp only
  obtain ⟨h, r, k, rfl⟩ : ∃ (h : Fin 16) (r : Fin 512) (k : Fin 256), y = ix4 (0 : Fin 1) h r k :=
    ⟨y 1, y 2, y 3, funext fun a => by
      match a with
      | ⟨0, _⟩ => exact Subsingleton.elim (α := Fin 1) _ _
      | ⟨1, _⟩ => rfl
      | ⟨2, _⟩ => rfl
      | ⟨3, _⟩ => rfl⟩
  obtain ⟨b, R, hb, hR, he⟩ : ∃ (b : Fin 4) (R : Fin 4096), (b : ℕ) = grid0.coords t 0 ∧ (R : ℕ) = grid0.coords t 1 * 512 + r ∧
      ((View.whole main_v30_0).slice (win0_9.rect t)).emb (ix4 (0 : Fin 1) h r k) = ix4 b h R k := by
    have h1 : (grid0.coords t 1 : ℕ) < 8 := (grid0.coords t 1).isLt
    refine ⟨grid0.coords t 0, ⟨grid0.coords t 1 * 512 + r, by omega⟩, rfl, rfl, ?_⟩
    blk_ext [idx_q t]
  refine (block_q _ _ _ _ _ _ _ _ _ _ _ _ _ _ _ _ _ _ _ _ _ _ _ _ _ _ _ _ _ _ _ _ _ _ _ _).trans ?_
  refine Eq.trans ?_ (congrArg _ he).symm
  exact q_rows _ _ _ _ _ _ _ _ _ b R r h (cq_block t b R r m c hb hR) (cos_block t b R r m c hb hR) (sin_block t b R r m c hb hR) (gq_block t m c) (fun o l => wq_block t m c o h l) k

/-- The array of keys after the last grid point is the reference's. -/
theorem array_eq_k :
    (dats m 0 c).arrAt 10 cfg0.N = Cert.Reference6Ideal.Read.val_main_v98 (F := Ideal) (m ((c.tc : Thread nD τ).loc main_arg0)) (m ((c.tc : Thread nD τ).loc main_arg1)) (m ((c.tc : Thread nD τ).loc main_arg4)) (m ((c.tc : Thread nD τ).loc main_arg5)) := by
  refine (dats m 0 c).arrAt_eq_of_covers 10 _ (by decide +kernel) fun t hf y => ?_
  blk_simp
  rw [after0_10]
  unfold outsAt0
  dsimp only
  obtain ⟨h, r, k, rfl⟩ : ∃ (h : Fin 16) (r : Fin 512) (k : Fin 256), y = ix4 (0 : Fin 1) h r k :=
    ⟨y 1, y 2, y 3, funext fun a => by
      match a with
      | ⟨0, _⟩ => exact Subsingleton.elim (α := Fin 1) _ _
      | ⟨1, _⟩ => rfl
      | ⟨2, _⟩ => rfl
      | ⟨3, _⟩ => rfl⟩
  obtain ⟨b, R, hb, hR, he⟩ : ∃ (b : Fin 4) (R : Fin 4096), (b : ℕ) = grid0.coords t 0 ∧ (R : ℕ) = grid0.coords t 1 * 512 + r ∧
      ((View.whole main_v30_1).slice (win0_10.rect t)).emb (ix4 (0 : Fin 1) h r k) = ix4 b h R k := by
    have h1 : (grid0.coords t 1 : ℕ) < 8 := (grid0.coords t 1).isLt
    refine ⟨grid0.coords t 0, ⟨grid0.coords t 1 * 512 + r, by omega⟩, rfl, rfl, ?_⟩
    blk_ext [idx_k t]
  refine (block_k _ _ _ _ _ _ _ _ _ _ _ _ _ _ _ _ _ _ _ _ _ _ _ _ _ _ _ _ _ _ _ _ _ _ _ _).trans ?_
  refine Eq.trans ?_ (congrArg _ he).symm
  exact k_rows _ _ _ _ _ _ _ _ _ _ b R r h (ckv_block t b R r m c hb hR) (pe_block t b R r m c hb hR) (cos_block t b R r m c hb hR) (sin_block t b R r m c hb hR) (gkv_block t m c) (wkv_block t m c) k

/-- The array of values after the last grid point is the reference's. -/
theorem array_eq_v :
    (dats m 0 c).arrAt 11 cfg0.N = Cert.Reference6Ideal.Read.val_main_v101 (F := Ideal) (m ((c.tc : Thread nD τ).loc main_arg0)) (m ((c.tc : Thread nD τ).loc main_arg4)) (m ((c.tc : Thread nD τ).loc main_arg5)) := by
  refine (dats m 0 c).arrAt_eq_of_covers 11 _ (by decide +kernel) fun t hf y => ?_
  blk_simp
  rw [after0_11]
  unfold outsAt0
  dsimp only
  obtain ⟨h, r, k, rfl⟩ : ∃ (h : Fin 16) (r : Fin 512) (k : Fin 128), y = ix4 (0 : Fin 1) h r k :=
    ⟨y 1, y 2, y 3, funext fun a => by
      match a with
      | ⟨0, _⟩ => exact Subsingleton.elim (α := Fin 1) _ _
      | ⟨1, _⟩ => rfl
      | ⟨2, _⟩ => rfl
      | ⟨3, _⟩ => rfl⟩
  obtain ⟨b, R, hb, hR, he⟩ : ∃ (b : Fin 4) (R : Fin 4096), (b : ℕ) = grid0.coords t 0 ∧ (R : ℕ) = grid0.coords t 1 * 512 + r ∧
      ((View.whole main_v30_2).slice (win0_11.rect t)).emb (ix4 (0 : Fin 1) h r k) = ix4 b h R k := by
    have h1 : (grid0.coords t 1 : ℕ) < 8 := (grid0.coords t 1).isLt
    refine ⟨grid0.coords t 0, ⟨grid0.coords t 1 * 512 + r, by omega⟩, rfl, rfl, ?_⟩
    blk_ext [idx_v t]
  refine (block_v _ _ _ _ _ _ _ _ _ _ _ _ _ _ _ _ _ _ _ _ _ _ _ _ _ _ _ _ _ _ _ _ _ _ _ _).trans ?_
  refine Eq.trans ?_ (congrArg _ he).symm
  exact v_rows _ _ _ _ _ _ b R r h (ckv_block t b R r m c hb hR) (gkv_block t m c) (wkv_block t m c) k

end Cert.Kernel6Ideal.Qkv
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel6Ideal.Value
public import proofs.«01_k».proof.Proof.Attn.Out
public import proofs.«01_k».proof.Proof.OutOdd.Value
public import proofs.«01_k».proof.Proof.InEven.Claim
public import proofs.«01_k».proof.Proof.InOdd.Claim
public import proofs.«01_k».proof.Proof.OutEven.Claim
public import proofs.«01_k».proof.Proof.Qkv.Claim
public import Idealize.ShloMosaic.Adequacy
public import Idealize.ShloMosaic.Init

/-!
The claims of this proof put together: each program's frame, what its idealization preserves, and the equality of the
kernel's result with the reference's. Each equality is proved in the call's own modules; here it meets the two programs' runs.
-/

@[expose] public section

noncomputable section

namespace Cert.Proof

open Idealize.ShloMosaic Idealize.ShloMosaic.TcCoe Idealize.SL.Sem

/-- The two shape facts the precondition states. -/
theorem finiteFacts : Cert.Pre_finite.Facts := ⟨by decide, by decide⟩

/-- On finite queries and keys, and any values, the kernel's result is the reference's. -/
theorem attention_algebraic [Cert.Pre_finite.Facts] : algebraic_KernelIdeal_ReferenceIdeal_pre_finite := by
  intro m g m' g' hpre hagree
  refine ⟨fun c => Cert.KernelIdeal.Attn.result m c, ?_, ?_⟩
  · refine θ_run_mono (Cert.KernelIdeal.Value.run_blocks m g) fun r hr c => ?_
    obtain ⟨hv, ha⟩ := hr c
    refine ⟨hv.trans (Cert.KernelIdeal.Attn.array_eq m c ?_ ?_), ha⟩
    · exact Cert.KernelIdeal.Attn.real_of_lt _ (hpre c).1
    · exact Cert.KernelIdeal.Attn.real_of_lt _ (hpre c).2
  · refine θ_run_mono (Cert.ReferenceIdeal.Value.run m' g') fun r hr c => ?_
    obtain ⟨hv, ha⟩ := hr c
    refine ⟨hv.trans ?_, ha⟩
    rw [Cert.ReferenceIdeal.Read.val_main_v25_eq, (hagree c).1, (hagree c).2.1, (hagree c).2.2]
    exact (Cert.KernelIdeal.Attn.result_eq_reference m c).symm

/-- The reference runs, leaves its arguments as they were, and has no semaphore at all. -/
theorem reference_frame : quiescent_ReferenceIdeal := fun m g _ =>
  θ_run_mono (Cert.ReferenceIdeal.Value.run m g) fun r h => ⟨fun c => (h c).2, sem_eq_zero_of_no_sems (by decide) r.2⟩

/-- The odd layer's output call: the kernel's result is the reference's. -/
theorem out_odd_algebraic : algebraic_Kernel2Ideal_Reference2Ideal := by
  intro m g m' g' _ hagree
  refine ⟨fun c => Cert.Reference2Ideal.Read.val_main_v27 (F := Ideal) (m ((c.tc : Thread Kernel2Ideal.nD Kernel2Ideal.τ).loc Kernel2Ideal.main_arg0)) (m ((c.tc : Thread Kernel2Ideal.nD Kernel2Ideal.τ).loc Kernel2Ideal.main_arg1)) (m ((c.tc : Thread Kernel2Ideal.nD Kernel2Ideal.τ).loc Kernel2Ideal.main_arg2)) (m ((c.tc : Thread Kernel2Ideal.nD Kernel2Ideal.τ).loc Kernel2Ideal.main_arg3)) (m ((c.tc : Thread Kernel2Ideal.nD Kernel2Ideal.τ).loc Kernel2Ideal.main_arg4)) (m ((c.tc : Thread Kernel2Ideal.nD Kernel2Ideal.τ).loc Kernel2Ideal.main_arg5)), ?_, ?_⟩
  · refine θ_run_mono (Cert.Kernel2Ideal.Value.run_blocks m g) fun r hr c => ?_
    obtain ⟨hv0, ha⟩ := hr c
    exact ⟨hv0.trans (Cert.Kernel2Ideal.OutOdd.array_eq m c), ha⟩
  · refine θ_run_mono (Cert.Reference2Ideal.Value.run m' g') fun r hr c => ?_
    obtain ⟨hv0, ha⟩ := hr c
    obtain ⟨h0, h1, h2, h3, h4, h5⟩ := hagree c
    refine ⟨hv0.trans ?_, ha⟩
    rw [Cert.Reference2Ideal.Read.val_main_v27_eq, h0, h1, h2, h3, h4, h5]

/-- The reference's run leaves its arguments as they were and every counter at zero. -/
theorem out_odd_reference_frame : quiescent_Reference2Ideal := fun m g _ =>
  θ_run_mono (Cert.Reference2Ideal.Value.run m g) fun r h => ⟨fun c => (h c).2, sem_eq_zero_of_no_sems (by decide) r.2⟩

/-- The even layer's modulation and input projection: the kernel's result is the reference's. -/
theorem in_even_algebraic : algebraic_Kernel3Ideal_Reference3Ideal := by
  intro m g m' g' _ hagree
  refine ⟨fun c => Cert.Reference3Ideal.Read.val_main_v41 (F := Ideal) (m ((c.tc : Thread Kernel3Ideal.nD Kernel3Ideal.τ).loc Kernel3Ideal.main_arg0)) (m ((c.tc : Thread Kernel3Ideal.nD Kernel3Ideal.τ).loc Kernel3Ideal.main_arg1)) (m ((c.tc : Thread Kernel3Ideal.nD Kernel3Ideal.τ).loc Kernel3Ideal.main_arg2)) (m ((c.tc : Thread Kernel3Ideal.nD Kernel3Ideal.τ).loc Kernel3Ideal.main_arg3)) (m ((c.tc : Thread Kernel3Ideal.nD Kernel3Ideal.τ).loc Kernel3Ideal.main_arg4)) (m ((c.tc : Thread Kernel3Ideal.nD Kernel3Ideal.τ).loc Kernel3Ideal.main_arg5)), ?_, ?_⟩
  · refine θ_run_mono (Cert.Kernel3Ideal.InEven.run_blocks m g) fun r hr c => ?_
    obtain ⟨hv0, ha⟩ := hr c
    exact ⟨hv0.trans (Cert.Kernel3Ideal.InEven.array_eq m g c), ha⟩
  · refine θ_run_mono (Cert.Reference3Ideal.Value.run m' g') fun r hr c => ?_
    obtain ⟨hv0, ha⟩ := hr c
    obtain ⟨h0, h1, h2, h3, h4, h5⟩ := hagree c
    refine ⟨hv0.trans ?_, ha⟩
    rw [Cert.Reference3Ideal.Read.val_main_v41_eq, h0, h1, h2, h3, h4, h5]

/-- The reference's run leaves its arguments as they were and every counter at zero. -/
theorem in_even_reference_frame : quiescent_Reference3Ideal := fun m g _ =>
  θ_run_mono (Cert.Reference3Ideal.Value.run m g) fun r h => ⟨fun c => (h c).2, sem_eq_zero_of_no_sems (by decide) r.2⟩

/-- The odd layer's modulation and input projection: the kernel's result is the reference's. -/
theorem in_odd_algebraic : algebraic_Kernel4Ideal_Reference4Ideal := by
  intro m g m' g' _ hagree
  refine ⟨fun c => Cert.Reference4Ideal.Read.val_main_v41 (F := Ideal) (m ((c.tc : Thread Kernel4Ideal.nD Kernel4Ideal.τ).loc Kernel4Ideal.main_arg0)) (m ((c.tc : Thread Kernel4Ideal.nD Kernel4Ideal.τ).loc Kernel4Ideal.main_arg1)) (m ((c.tc : Thread Kernel4Ideal.nD Kernel4Ideal.τ).loc Kernel4Ideal.main_arg2)) (m ((c.tc : Thread Kernel4Ideal.nD Kernel4Ideal.τ).loc Kernel4Ideal.main_arg3)) (m ((c.tc : Thread Kernel4Ideal.nD Kernel4Ideal.τ).loc Kernel4Ideal.main_arg4)) (m ((c.tc : Thread Kernel4Ideal.nD Kernel4Ideal.τ).loc Kernel4Ideal.main_arg5)), ?_, ?_⟩
  · refine θ_run_mono (Cert.Kernel4Ideal.InOdd.run_blocks m g) fun r hr c => ?_
    obtain ⟨hv0, ha⟩ := hr c
    exact ⟨hv0.trans (Cert.Kernel4Ideal.InOdd.array_eq m g c), ha⟩
  · refine θ_run_mono (Cert.Reference4Ideal.Value.run m' g') fun r hr c => ?_
    obtain ⟨hv0, ha⟩ := hr c
    obtain ⟨h0, h1, h2, h3, h4, h5⟩ := hagree c
    refine ⟨hv0.trans ?_, ha⟩
    rw [Cert.Reference4Ideal.Read.val_main_v41_eq, h0, h1, h2, h3, h4, h5]

/-- The reference's run leaves its arguments as they were and every counter at zero. -/
theorem in_odd_reference_frame : quiescent_Reference4Ideal := fun m g _ =>
  θ_run_mono (Cert.Reference4Ideal.Value.run m g) fun r h => ⟨fun c => (h c).2, sem_eq_zero_of_no_sems (by decide) r.2⟩

/-- The even layer's modulation and output projection: the kernel's result is the reference's. -/
theorem out_even_algebraic : algebraic_Kernel5Ideal_Reference5Ideal := by
  intro m g m' g' _ hagree
  refine ⟨fun c => Cert.Reference5Ideal.Read.val_main_v36 (F := Ideal) (m ((c.tc : Thread Kernel5Ideal.nD Kernel5Ideal.τ).loc Kernel5Ideal.main_arg0)) (m ((c.tc : Thread Kernel5Ideal.nD Kernel5Ideal.τ).loc Kernel5Ideal.main_arg1)) (m ((c.tc : Thread Kernel5Ideal.nD Kernel5Ideal.τ).loc Kernel5Ideal.main_arg2)) (m ((c.tc : Thread Kernel5Ideal.nD Kernel5Ideal.τ).loc Kernel5Ideal.main_arg3)) (m ((c.tc : Thread Kernel5Ideal.nD Kernel5Ideal.τ).loc Kernel5Ideal.main_arg4)) (m ((c.tc : Thread Kernel5Ideal.nD Kernel5Ideal.τ).loc Kernel5Ideal.main_arg5)) (m ((c.tc : Thread Kernel5Ideal.nD Kernel5Ideal.τ).loc Kernel5Ideal.main_arg6)) (m ((c.tc : Thread Kernel5Ideal.nD Kernel5Ideal.τ).loc Kernel5Ideal.main_arg7)), ?_, ?_⟩
  · refine θ_run_mono (Cert.Kernel5Ideal.OutEven.run_blocks m g) fun r hr c => ?_
    obtain ⟨hv0, ha⟩ := hr c
    exact ⟨hv0.trans (Cert.Kernel5Ideal.OutEven.array_eq m g c), ha⟩
  · refine θ_run_mono (Cert.Reference5Ideal.Value.run m' g') fun r hr c => ?_
    obtain ⟨hv0, ha⟩ := hr c
    obtain ⟨h0, h1, h2, h3, h4, h5, h6, h7⟩ := hagree c
    refine ⟨hv0.trans ?_, ha⟩
    rw [Cert.Reference5Ideal.Read.val_main_v36_eq, h0, h1, h2, h3, h4, h5, h6, h7]

/-- The reference's run leaves its arguments as they were and every counter at zero. -/
theorem out_even_reference_frame : quiescent_Reference5Ideal := fun m g _ =>
  θ_run_mono (Cert.Reference5Ideal.Value.run m g) fun r h => ⟨fun c => (h c).2, sem_eq_zero_of_no_sems (by decide) r.2⟩

/-- The queries', keys' and values' call: the kernel's result is the reference's. -/
theorem qkv_algebraic : algebraic_Kernel6Ideal_Reference6Ideal := by
  intro m g m' g' _ hagree
  refine ⟨fun c => Cert.Reference6Ideal.Read.val_main_v96 (F := Ideal) (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg2)) (m ((c.tc : Thread Kernel6Ideal.nD Kernel6Ideal.τ).loc Kernel6Ideal.main_arg3)), fun c => Cert.Reference6Ideal.Read.val_main_v98 (F := Ideal) (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg4)) (m ((c.tc : Thread Kernel6Ideal.nD Kernel6Ideal.τ).loc Kernel6Ideal.main_arg5)), fun c => Cert.Reference6Ideal.Read.val_main_v101 (F := Ideal) (m ((c.tc : Thread Kernel6Ideal.nD Kernel6Ideal.τ).loc Kernel6Ideal.main_arg0)) (m ((c.tc : Thread Kernel6Ideal.nD Kernel6Ideal.τ).loc Kernel6Ideal.main_arg4)) (m ((c.tc : Thread Kernel6Ideal.nD Kernel6Ideal.τ).loc Kernel6Ideal.main_arg5)), ?_, ?_⟩
  · refine θ_run_mono (Cert.Kernel6Ideal.Value.run_blocks m g) fun r hr c => ?_
    obtain ⟨hv0, hv1, hv2, ha⟩ := hr c
    exact ⟨hv0.trans (Cert.Kernel6Ideal.Qkv.array_eq_q m c), hv1.trans (Cert.Kernel6Ideal.Qkv.array_eq_k m c), hv2.trans (Cert.Kernel6Ideal.Qkv.array_eq_v m c), ha⟩
  · refine θ_run_mono (Cert.Reference6Ideal.Value.run m' g') fun r hr c => ?_
    obtain ⟨hv0, hv1, hv2, ha⟩ := hr c
    obtain ⟨h0, h1, h2, h3, h4, h5⟩ := hagree c
    refine ⟨hv0.trans ?_, hv1.trans ?_, hv2.trans ?_, ha⟩
    · rw [Cert.Reference6Ideal.Read.val_main_v96_eq, h0, h1, h2, h3]
    · rw [Cert.Reference6Ideal.Read.val_main_v98_eq, h0, h1, h4, h5]
    · rw [Cert.Reference6Ideal.Read.val_main_v101_eq, h0, h4, h5]

/-- The reference's run leaves its arguments as they were and every counter at zero. -/
theorem qkv_reference_frame : quiescent_Reference6Ideal := fun m g _ =>
  θ_run_mono (Cert.Reference6Ideal.Value.run m g) fun r h => ⟨fun c => (h c).2.2.2, sem_eq_zero_of_no_sems (by decide) r.2⟩

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, finiteFacts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    fun m ρ _ => Cert.Kernel2.Gen.frame m ρ,
    fun m ρ _ => Cert.Kernel2Ideal.Gen.frame m ρ,
    out_odd_reference_frame,
    fun m ρ _ => Cert.Kernel3.Gen.frame m ρ,
    fun m ρ _ => Cert.Kernel3Ideal.Gen.frame m ρ,
    in_even_reference_frame,
    fun m ρ _ => Cert.Kernel4.Gen.frame m ρ,
    fun m ρ _ => Cert.Kernel4Ideal.Gen.frame m ρ,
    in_odd_reference_frame,
    fun m ρ _ => Cert.Kernel5.Gen.frame m ρ,
    fun m ρ _ => Cert.Kernel5Ideal.Gen.frame m ρ,
    out_even_reference_frame,
    fun m ρ _ => Cert.Kernel6.Gen.frame m ρ,
    fun m ρ _ => Cert.Kernel6Ideal.Gen.frame m ρ,
    qkv_reference_frame,
    IdealRules.named_const.statement Cert.KernelIdeal.κ "mask" .f32 0xF149F2CA#32 _ rfl,
    haveI := finiteFacts; attention_algebraic,
    trivial,
    out_odd_algebraic,
    trivial,
    in_even_algebraic,
    trivial,
    in_odd_algebraic,
    trivial,
    out_even_algebraic,
    trivial,
    qkv_algebraic⟩

end Cert.Proof
